-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S1024x1024 : Shape := ⟨2, ![1024, 1024]⟩
abbrev S8x32x1024 : Shape := ⟨3, ![8, 32, 1024]⟩
abbrev S8 : Shape := ⟨1, ![8]⟩
abbrev S2 : Shape := ⟨1, ![2]⟩
abbrev S_ : Shape := ⟨0, ![]⟩
abbrev S32x1024 : Shape := ⟨2, ![32, 1024]⟩
abbrev S1x32x1024 : Shape := ⟨3, ![1, 32, 1024]⟩
abbrev S1 : Shape := ⟨1, ![1]⟩
abbrev S32 : Shape := ⟨1, ![32]⟩
abbrev S32x1 : Shape := ⟨2, ![32, 1]⟩
abbrev S128x1024 : Shape := ⟨2, ![128, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .f32⟩
  | .local _ .vmem, ⟨0, _⟩ => ⟨S2048x1024, .f32⟩
  | .local _ .vmem, ⟨1, _⟩ => ⟨S1x1024, .f32⟩
  | .local _ .vmem, ⟨2, _⟩ => ⟨S1024x1024, .f32⟩
  | .local _ .vmem, ⟨3, _⟩ => ⟨S8x32x1024, .bf16⟩
  | .local _ .vmem, ⟨4, _⟩ => ⟨S8x32x1024, .bf16⟩
  | .local _ .vmem, ⟨5, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v76 : BitVec 32 := Scalar.muli v2 c4_i32_42
  let v77 : BitVec 32 := Scalar.addi c0_i32_43 v76
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_44 : BitVec 32 := 2#32
  let v78 : BitVec 32 := Scalar.muli v9 c2_i32_44
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v80 : BitVec 32 := Scalar.muli v8 c1_i32_45
  let v81 : BitVec 32 := Scalar.addi v79 v80
  v81.toNat
def k0_dev2 (d0 : Dev nD) : Nat :=
  let c0_i32_48 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_47 : BitVec 32 := 4#32
  let v82 : BitVec 32 := Scalar.muli v68 c4_i32_47
  let v83 : BitVec 32 := Scalar.addi c0_i32_48 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v84 : BitVec 32 := Scalar.muli v5 c2_i32_49
  let v85 : BitVec 32 := Scalar.addi v83 v84
  let c1_i32_38 : BitVec 32 := 1#32
  let v69 : BitVec 32 := Scalar.subi c1_i32_38 v8
  let v70 : BitVec 32 := Scalar.select v66 v8 v69
  let c1_i32_50 : BitVec 32 := 1#32
  let v86 : BitVec 32 := Scalar.muli v70 c1_i32_50
  let v87 : BitVec 32 := Scalar.addi v85 v86
  v87.toNat
def k0_dev3 (d0 : Dev nD) : Nat :=
  let c0_i32_53 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_52 : BitVec 32 := 4#32
  let v88 : BitVec 32 := Scalar.muli v72 c4_i32_52
  let v89 : BitVec 32 := Scalar.addi c0_i32_53 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v90 : BitVec 32 := Scalar.muli v5 c2_i32_54
  let v91 : BitVec 32 := Scalar.addi v89 v90
  let c1_i32_40 : BitVec 32 := 1#32
  let v73 : BitVec 32 := Scalar.subi c1_i32_40 v8
  let v74 : BitVec 32 := Scalar.select v66 v73 v8
  let c1_i32_55 : BitVec 32 := 1#32
  let v92 : BitVec 32 := Scalar.muli v74 c1_i32_55
  let v93 : BitVec 32 := Scalar.addi v91 v92
  v93.toNat
def k0_off1 (d0 : Dev nD) (c0_i32_58 : BitVec 32) : Fin 2 → Nat :=
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v94 : BitVec 32 := Scalar.subi c1_i32_57 v5
  let c1024_i32 : BitVec 32 := 1024#32
  let v95 : BitVec 32 := Scalar.muli v94 c1024_i32
  let c256_i32 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v96 : BitVec 32 := Scalar.muli c256_i32 v22
  let v97 : BitVec 32 := Scalar.addi v95 v96
  let v98 : BitVec 32 := Scalar.addi v97 c0_i32_58
  let v99 : Index := Scalar.indexCast v98
  let c0 : Index := 0#32
  ![v99.toNat, 0]
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v106 : BitVec 32 := Scalar.muli v2 c4_i32_66
  let v107 : BitVec 32 := Scalar.addi c0_i32_67 v106
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_68 : BitVec 32 := 2#32
  let v108 : BitVec 32 := Scalar.muli v9 c2_i32_68
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v110 : BitVec 32 := Scalar.muli v8 c1_i32_69
  let v111 : BitVec 32 := Scalar.addi v109 v110
  v111.toNat
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v128 : BitVec 32 := Scalar.muli v2 c4_i32_81
  let v129 : BitVec 32 := Scalar.addi c0_i32_82 v128
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_83 : BitVec 32 := 2#32
  let v130 : BitVec 32 := Scalar.muli v9 c2_i32_83
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v132 : BitVec 32 := Scalar.muli v8 c1_i32_84
  let v133 : BitVec 32 := Scalar.addi v131 v132
  v133.toNat
def k0_dev6 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v150 : BitVec 32 := Scalar.muli v2 c4_i32_96
  let v151 : BitVec 32 := Scalar.addi c0_i32_97 v150
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_98 : BitVec 32 := 2#32
  let v152 : BitVec 32 := Scalar.muli v9 c2_i32_98
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v154 : BitVec 32 := Scalar.muli v8 c1_i32_99
  let v155 : BitVec 32 := Scalar.addi v153 v154
  v155.toNat
def k0_dev7 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v172 : BitVec 32 := Scalar.muli v2 c4_i32_111
  let v173 : BitVec 32 := Scalar.addi c0_i32_112 v172
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_113 : BitVec 32 := 2#32
  let v174 : BitVec 32 := Scalar.muli v9 c2_i32_113
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v176 : BitVec 32 := Scalar.muli v8 c1_i32_114
  let v177 : BitVec 32 := Scalar.addi v175 v176
  v177.toNat
def k0_dev8 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v194 : BitVec 32 := Scalar.muli v2 c4_i32_126
  let v195 : BitVec 32 := Scalar.addi c0_i32_127 v194
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_128 : BitVec 32 := 2#32
  let v196 : BitVec 32 := Scalar.muli v9 c2_i32_128
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v198 : BitVec 32 := Scalar.muli v8 c1_i32_129
  let v199 : BitVec 32 := Scalar.addi v197 v198
  v199.toNat
def k0_dev9 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v216 : BitVec 32 := Scalar.muli v2 c4_i32_140
  let v217 : BitVec 32 := Scalar.addi c0_i32_141 v216
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_142 : BitVec 32 := 2#32
  let v218 : BitVec 32 := Scalar.muli v9 c2_i32_142
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v220 : BitVec 32 := Scalar.muli v8 c1_i32_143
  let v221 : BitVec 32 := Scalar.addi v219 v220
  v221.toNat
def k0_dev10 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v238 : BitVec 32 := Scalar.muli v2 c4_i32_154
  let v239 : BitVec 32 := Scalar.addi c0_i32_155 v238
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_156 : BitVec 32 := 2#32
  let v240 : BitVec 32 := Scalar.muli v9 c2_i32_156
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v242 : BitVec 32 := Scalar.muli v8 c1_i32_157
  let v243 : BitVec 32 := Scalar.addi v241 v242
  v243.toNat
def k0_dev11 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v260 : BitVec 32 := Scalar.muli v2 c4_i32_168
  let v261 : BitVec 32 := Scalar.addi c0_i32_169 v260
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_170 : BitVec 32 := 2#32
  let v262 : BitVec 32 := Scalar.muli v9 c2_i32_170
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v264 : BitVec 32 := Scalar.muli v8 c1_i32_171
  let v265 : BitVec 32 := Scalar.addi v263 v264
  v265.toNat
def k0_off2 (d0 : Dev nD) (c0_i32_190 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_176 : BitVec 32 := 1024#32
  let v274 : BitVec 32 := Scalar.muli v5 c1024_i32_176
  let c256_i32_177 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v275 : BitVec 32 := Scalar.muli c256_i32_177 v22
  let v276 : BitVec 32 := Scalar.addi v274 v275
  let v289 : BitVec 32 := Scalar.addi v276 c0_i32_190
  let v290 : Index := Scalar.indexCast v289
  let c0_191 : Index := 0#32
  ![v290.toNat, 0]
def k0_off3 (d0 : Dev nD) (c0_i32_200 : BitVec 32) : Fin 2 → Nat :=
  let c256_i32_199 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v311 : BitVec 32 := Scalar.muli c256_i32_199 v22
  let v312 : BitVec 32 := Scalar.addi v311 c0_i32_200
  let v313 : Index := Scalar.indexCast v312
  let c0_201 : Index := 0#32
  ![v313.toNat, 0]
def k0_off4 (d0 : Dev nD) (c0_i32_208 : BitVec 32) : Fin 2 → Nat :=
  let c256_i32_207 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v324 : BitVec 32 := Scalar.muli c256_i32_207 v22
  let v325 : BitVec 32 := Scalar.addi v324 c0_i32_208
  let c0_i32_215 : BitVec 32 := 0#32
  ![v325.toNat, 0]
def k0_dev12 (d0 : Dev nD) : Nat :=
  let c0_i32_212 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_211 : BitVec 32 := 4#32
  let v326 : BitVec 32 := Scalar.muli v68 c4_i32_211
  let v327 : BitVec 32 := Scalar.addi c0_i32_212 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v328 : BitVec 32 := Scalar.muli v5 c2_i32_213
  let v329 : BitVec 32 := Scalar.addi v327 v328
  let c1_i32_38 : BitVec 32 := 1#32
  let v69 : BitVec 32 := Scalar.subi c1_i32_38 v8
  let v70 : BitVec 32 := Scalar.select v66 v8 v69
  let c1_i32_214 : BitVec 32 := 1#32
  let v330 : BitVec 32 := Scalar.muli v70 c1_i32_214
  let v331 : BitVec 32 := Scalar.addi v329 v330
  v331.toNat
def k0_dev13 (d0 : Dev nD) : Nat :=
  let c0_i32_224 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_223 : BitVec 32 := 4#32
  let v342 : BitVec 32 := Scalar.muli v72 c4_i32_223
  let v343 : BitVec 32 := Scalar.addi c0_i32_224 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v344 : BitVec 32 := Scalar.muli v5 c2_i32_225
  let v345 : BitVec 32 := Scalar.addi v343 v344
  let c1_i32_40 : BitVec 32 := 1#32
  let v73 : BitVec 32 := Scalar.subi c1_i32_40 v8
  let v74 : BitVec 32 := Scalar.select v66 v73 v8
  let c1_i32_226 : BitVec 32 := 1#32
  let v346 : BitVec 32 := Scalar.muli v74 c1_i32_226
  let v347 : BitVec 32 := Scalar.addi v345 v346
  v347.toNat
def k0_dev14 (d0 : Dev nD) : Nat :=
  let c0_i32_264 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_263 : BitVec 32 := 4#32
  let v403 : BitVec 32 := Scalar.muli v68 c4_i32_263
  let v404 : BitVec 32 := Scalar.addi c0_i32_264 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v405 : BitVec 32 := Scalar.muli v5 c2_i32_265
  let v406 : BitVec 32 := Scalar.addi v404 v405
  let c1_i32_38 : BitVec 32 := 1#32
  let v69 : BitVec 32 := Scalar.subi c1_i32_38 v8
  let v70 : BitVec 32 := Scalar.select v66 v8 v69
  let c1_i32_266 : BitVec 32 := 1#32
  let v407 : BitVec 32 := Scalar.muli v70 c1_i32_266
  let v408 : BitVec 32 := Scalar.addi v406 v407
  v408.toNat
def k0_dev15 (d0 : Dev nD) : Nat :=
  let c0_i32_276 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_275 : BitVec 32 := 4#32
  let v419 : BitVec 32 := Scalar.muli v72 c4_i32_275
  let v420 : BitVec 32 := Scalar.addi c0_i32_276 v419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_277 : BitVec 32 := 2#32
  let v421 : BitVec 32 := Scalar.muli v5 c2_i32_277
  let v422 : BitVec 32 := Scalar.addi v420 v421
  let c1_i32_40 : BitVec 32 := 1#32
  let v73 : BitVec 32 := Scalar.subi c1_i32_40 v8
  let v74 : BitVec 32 := Scalar.select v66 v73 v8
  let c1_i32_278 : BitVec 32 := 1#32
  let v423 : BitVec 32 := Scalar.muli v74 c1_i32_278
  let v424 : BitVec 32 := Scalar.addi v422 v423
  v424.toNat
def k0_dev16 (d0 : Dev nD) : Nat :=
  let c0_i32_316 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_315 : BitVec 32 := 4#32
  let v480 : BitVec 32 := Scalar.muli v68 c4_i32_315
  let v481 : BitVec 32 := Scalar.addi c0_i32_316 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v482 : BitVec 32 := Scalar.muli v5 c2_i32_317
  let v483 : BitVec 32 := Scalar.addi v481 v482
  let c1_i32_38 : BitVec 32 := 1#32
  let v69 : BitVec 32 := Scalar.subi c1_i32_38 v8
  let v70 : BitVec 32 := Scalar.select v66 v8 v69
  let c1_i32_318 : BitVec 32 := 1#32
  let v484 : BitVec 32 := Scalar.muli v70 c1_i32_318
  let v485 : BitVec 32 := Scalar.addi v483 v484
  v485.toNat
def k0_dev17 (d0 : Dev nD) : Nat :=
  let c0_i32_328 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_327 : BitVec 32 := 4#32
  let v496 : BitVec 32 := Scalar.muli v72 c4_i32_327
  let v497 : BitVec 32 := Scalar.addi c0_i32_328 v496
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v498 : BitVec 32 := Scalar.muli v5 c2_i32_329
  let v499 : BitVec 32 := Scalar.addi v497 v498
  let c1_i32_40 : BitVec 32 := 1#32
  let v73 : BitVec 32 := Scalar.subi c1_i32_40 v8
  let v74 : BitVec 32 := Scalar.select v66 v73 v8
  let c1_i32_330 : BitVec 32 := 1#32
  let v500 : BitVec 32 := Scalar.muli v74 c1_i32_330
  let v501 : BitVec 32 := Scalar.addi v499 v500
  v501.toNat
def k0_dev18 (d0 : Dev nD) : Nat :=
  let c0_i32_368 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_367 : BitVec 32 := 4#32
  let v557 : BitVec 32 := Scalar.muli v68 c4_i32_367
  let v558 : BitVec 32 := Scalar.addi c0_i32_368 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v559 : BitVec 32 := Scalar.muli v5 c2_i32_369
  let v560 : BitVec 32 := Scalar.addi v558 v559
  let c1_i32_38 : BitVec 32 := 1#32
  let v69 : BitVec 32 := Scalar.subi c1_i32_38 v8
  let v70 : BitVec 32 := Scalar.select v66 v8 v69
  let c1_i32_370 : BitVec 32 := 1#32
  let v561 : BitVec 32 := Scalar.muli v70 c1_i32_370
  let v562 : BitVec 32 := Scalar.addi v560 v561
  v562.toNat
def k0_dev19 (d0 : Dev nD) : Nat :=
  let c0_i32_380 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_379 : BitVec 32 := 4#32
  let v573 : BitVec 32 := Scalar.muli v72 c4_i32_379
  let v574 : BitVec 32 := Scalar.addi c0_i32_380 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_381 : BitVec 32 := 2#32
  let v575 : BitVec 32 := Scalar.muli v5 c2_i32_381
  let v576 : BitVec 32 := Scalar.addi v574 v575
  let c1_i32_40 : BitVec 32 := 1#32
  let v73 : BitVec 32 := Scalar.subi c1_i32_40 v8
  let v74 : BitVec 32 := Scalar.select v66 v73 v8
  let c1_i32_382 : BitVec 32 := 1#32
  let v577 : BitVec 32 := Scalar.muli v74 c1_i32_382
  let v578 : BitVec 32 := Scalar.addi v576 v577
  v578.toNat
def k0_dev20 (d0 : Dev nD) : Nat :=
  let c0_i32_420 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_419 : BitVec 32 := 4#32
  let v634 : BitVec 32 := Scalar.muli v68 c4_i32_419
  let v635 : BitVec 32 := Scalar.addi c0_i32_420 v634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_421 : BitVec 32 := 2#32
  let v636 : BitVec 32 := Scalar.muli v5 c2_i32_421
  let v637 : BitVec 32 := Scalar.addi v635 v636
  let c1_i32_38 : BitVec 32 := 1#32
  let v69 : BitVec 32 := Scalar.subi c1_i32_38 v8
  let v70 : BitVec 32 := Scalar.select v66 v8 v69
  let c1_i32_422 : BitVec 32 := 1#32
  let v638 : BitVec 32 := Scalar.muli v70 c1_i32_422
  let v639 : BitVec 32 := Scalar.addi v637 v638
  v639.toNat
def k0_dev21 (d0 : Dev nD) : Nat :=
  let c0_i32_432 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_431 : BitVec 32 := 4#32
  let v650 : BitVec 32 := Scalar.muli v72 c4_i32_431
  let v651 : BitVec 32 := Scalar.addi c0_i32_432 v650
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v652 : BitVec 32 := Scalar.muli v5 c2_i32_433
  let v653 : BitVec 32 := Scalar.addi v651 v652
  let c1_i32_40 : BitVec 32 := 1#32
  let v73 : BitVec 32 := Scalar.subi c1_i32_40 v8
  let v74 : BitVec 32 := Scalar.select v66 v73 v8
  let c1_i32_434 : BitVec 32 := 1#32
  let v654 : BitVec 32 := Scalar.muli v74 c1_i32_434
  let v655 : BitVec 32 := Scalar.addi v653 v654
  v655.toNat
def k0_dev22 (d0 : Dev nD) : Nat :=
  let c0_i32_472 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_471 : BitVec 32 := 4#32
  let v711 : BitVec 32 := Scalar.muli v68 c4_i32_471
  let v712 : BitVec 32 := Scalar.addi c0_i32_472 v711
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_473 : BitVec 32 := 2#32
  let v713 : BitVec 32 := Scalar.muli v5 c2_i32_473
  let v714 : BitVec 32 := Scalar.addi v712 v713
  let c1_i32_38 : BitVec 32 := 1#32
  let v69 : BitVec 32 := Scalar.subi c1_i32_38 v8
  let v70 : BitVec 32 := Scalar.select v66 v8 v69
  let c1_i32_474 : BitVec 32 := 1#32
  let v715 : BitVec 32 := Scalar.muli v70 c1_i32_474
  let v716 : BitVec 32 := Scalar.addi v714 v715
  v716.toNat
def k0_dev23 (d0 : Dev nD) : Nat :=
  let c0_i32_484 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_483 : BitVec 32 := 4#32
  let v727 : BitVec 32 := Scalar.muli v72 c4_i32_483
  let v728 : BitVec 32 := Scalar.addi c0_i32_484 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v729 : BitVec 32 := Scalar.muli v5 c2_i32_485
  let v730 : BitVec 32 := Scalar.addi v728 v729
  let c1_i32_40 : BitVec 32 := 1#32
  let v73 : BitVec 32 := Scalar.subi c1_i32_40 v8
  let v74 : BitVec 32 := Scalar.select v66 v73 v8
  let c1_i32_486 : BitVec 32 := 1#32
  let v731 : BitVec 32 := Scalar.muli v74 c1_i32_486
  let v732 : BitVec 32 := Scalar.addi v730 v731
  v732.toNat
def k0_dev24 (d0 : Dev nD) : Nat :=
  let c0_i32_524 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_523 : BitVec 32 := 4#32
  let v788 : BitVec 32 := Scalar.muli v68 c4_i32_523
  let v789 : BitVec 32 := Scalar.addi c0_i32_524 v788
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_525 : BitVec 32 := 2#32
  let v790 : BitVec 32 := Scalar.muli v5 c2_i32_525
  let v791 : BitVec 32 := Scalar.addi v789 v790
  let c1_i32_38 : BitVec 32 := 1#32
  let v69 : BitVec 32 := Scalar.subi c1_i32_38 v8
  let v70 : BitVec 32 := Scalar.select v66 v8 v69
  let c1_i32_526 : BitVec 32 := 1#32
  let v792 : BitVec 32 := Scalar.muli v70 c1_i32_526
  let v793 : BitVec 32 := Scalar.addi v791 v792
  v793.toNat
def k0_dev25 (d0 : Dev nD) : Nat :=
  let c0_i32_536 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_535 : BitVec 32 := 4#32
  let v804 : BitVec 32 := Scalar.muli v72 c4_i32_535
  let v805 : BitVec 32 := Scalar.addi c0_i32_536 v804
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_537 : BitVec 32 := 2#32
  let v806 : BitVec 32 := Scalar.muli v5 c2_i32_537
  let v807 : BitVec 32 := Scalar.addi v805 v806
  let c1_i32_40 : BitVec 32 := 1#32
  let v73 : BitVec 32 := Scalar.subi c1_i32_40 v8
  let v74 : BitVec 32 := Scalar.select v66 v73 v8
  let c1_i32_538 : BitVec 32 := 1#32
  let v808 : BitVec 32 := Scalar.muli v74 c1_i32_538
  let v809 : BitVec 32 := Scalar.addi v807 v808
  v809.toNat
def k0_dev26 (d0 : Dev nD) : Nat :=
  let c0_i32_576 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_575 : BitVec 32 := 4#32
  let v865 : BitVec 32 := Scalar.muli v68 c4_i32_575
  let v866 : BitVec 32 := Scalar.addi c0_i32_576 v865
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_577 : BitVec 32 := 2#32
  let v867 : BitVec 32 := Scalar.muli v5 c2_i32_577
  let v868 : BitVec 32 := Scalar.addi v866 v867
  let c1_i32_38 : BitVec 32 := 1#32
  let v69 : BitVec 32 := Scalar.subi c1_i32_38 v8
  let v70 : BitVec 32 := Scalar.select v66 v8 v69
  let c1_i32_578 : BitVec 32 := 1#32
  let v869 : BitVec 32 := Scalar.muli v70 c1_i32_578
  let v870 : BitVec 32 := Scalar.addi v868 v869
  v870.toNat
def k0_dev27 (d0 : Dev nD) : Nat :=
  let c0_i32_588 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_587 : BitVec 32 := 4#32
  let v881 : BitVec 32 := Scalar.muli v72 c4_i32_587
  let v882 : BitVec 32 := Scalar.addi c0_i32_588 v881
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_589 : BitVec 32 := 2#32
  let v883 : BitVec 32 := Scalar.muli v5 c2_i32_589
  let v884 : BitVec 32 := Scalar.addi v882 v883
  let c1_i32_40 : BitVec 32 := 1#32
  let v73 : BitVec 32 := Scalar.subi c1_i32_40 v8
  let v74 : BitVec 32 := Scalar.select v66 v73 v8
  let c1_i32_590 : BitVec 32 := 1#32
  let v885 : BitVec 32 := Scalar.muli v74 c1_i32_590
  let v886 : BitVec 32 := Scalar.addi v884 v885
  v886.toNat
def k0_off5 (d0 : Dev nD) (c3_i32 : BitVec 32) (c0_i32_594 : BitVec 32) : Fin 2 → Nat :=
  let c256_i32_593 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v34 : BitVec 32 := Scalar.addi v22 c3_i32
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let v893 : BitVec 32 := Scalar.muli c256_i32_593 v44
  let v894 : BitVec 32 := Scalar.addi v893 c0_i32_594
  let c0_i32_601 : BitVec 32 := 0#32
  ![v894.toNat, 0]
def k0_off6 (d0 : Dev nD) (c3_i32 : BitVec 32) : Fin 2 → Nat :=
  let c256_i32_638 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v34 : BitVec 32 := Scalar.addi v22 c3_i32
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let v942 : BitVec 32 := Scalar.muli c256_i32_638 v44
  let c0_i32_644 : BitVec 32 := 0#32
  ![v942.toNat, 0]
def k0_dev28 (d0 : Dev nD) : Nat :=
  let c0_i32_641 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_37 : BitVec 32 := 1#32
  let v67 : BitVec 32 := Scalar.subi c1_i32_37 v2
  let v68 : BitVec 32 := Scalar.select v66 v67 v2
  let c4_i32_640 : BitVec 32 := 4#32
  let v943 : BitVec 32 := Scalar.muli v68 c4_i32_640
  let v944 : BitVec 32 := Scalar.addi c0_i32_641 v943
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v945 : BitVec 32 := Scalar.muli v5 c2_i32_642
  let v946 : BitVec 32 := Scalar.addi v944 v945
  let c1_i32_38 : BitVec 32 := 1#32
  let v69 : BitVec 32 := Scalar.subi c1_i32_38 v8
  let v70 : BitVec 32 := Scalar.select v66 v8 v69
  let c1_i32_643 : BitVec 32 := 1#32
  let v947 : BitVec 32 := Scalar.muli v70 c1_i32_643
  let v948 : BitVec 32 := Scalar.addi v946 v947
  v948.toNat
def k0_off7 (d0 : Dev nD) (c1_i32_10 : BitVec 32) : Fin 2 → Nat :=
  let c256_i32_692 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v23 : BitVec 32 := Scalar.addi v22 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let v1003 : BitVec 32 := Scalar.muli c256_i32_692 v33
  let c128_i32_693 : BitVec 32 := 128#32
  let v1004 : BitVec 32 := Scalar.addi v1003 c128_i32_693
  let c0_i32_699 : BitVec 32 := 0#32
  ![v1004.toNat, 0]
def k0_dev29 (d0 : Dev nD) : Nat :=
  let c0_i32_696 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v22 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c0_i32_36 : BitVec 32 := 0#32
  let v66 : BitVec 1 := Scalar.cmpi .eq v65 c0_i32_36
  let c1_i32_39 : BitVec 32 := 1#32
  let v71 : BitVec 32 := Scalar.subi c1_i32_39 v2
  let v72 : BitVec 32 := Scalar.select v66 v2 v71
  let c4_i32_695 : BitVec 32 := 4#32
  let v1005 : BitVec 32 := Scalar.muli v72 c4_i32_695
  let v1006 : BitVec 32 := Scalar.addi c0_i32_696 v1005
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_697 : BitVec 32 := 2#32
  let v1007 : BitVec 32 := Scalar.muli v5 c2_i32_697
  let v1008 : BitVec 32 := Scalar.addi v1006 v1007
  let c1_i32_40 : BitVec 32 := 1#32
  let v73 : BitVec 32 := Scalar.subi c1_i32_40 v8
  let v74 : BitVec 32 := Scalar.select v66 v73 v8
  let c1_i32_698 : BitVec 32 := 1#32
  let v1009 : BitVec 32 := Scalar.muli v74 c1_i32_698
  let v1010 : BitVec 32 := Scalar.addi v1008 v1009
  v1010.toNat
def k0_off8 (d0 : Dev nD) (c3_i32 : BitVec 32) : Fin 2 → Nat :=
  let c256_i32_745 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let v34 : BitVec 32 := Scalar.addi v22 c3_i32
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let v1063 : BitVec 32 := Scalar.muli c256_i32_745 v44
  let v1064 : Index := Scalar.indexCast v1063
  let c0_746 : Index := 0#32
  ![v1064.toNat, 0]
def k0_off9 (d0 : Dev nD) : Fin 2 → Nat :=
  let c256_i32_806 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_23 : BitVec 32 := 2#32
  let v45 : BitVec 32 := Scalar.addi v22 c2_i32_23
  let c4_i32_24 : BitVec 32 := 4#32
  let c0_i32_25 : BitVec 32 := 0#32
  let v46 : BitVec 1 := Scalar.cmpi .eq c4_i32_24 c0_i32_25
  let c1_i32_26 : BitVec 32 := 1#32
  let v47 : BitVec 32 := Scalar.select v46 c1_i32_26 c4_i32_24
  let v48 : BitVec 32 := Scalar.remsi v45 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let v1134 : BitVec 32 := Scalar.muli c256_i32_806 v55
  let v1135 : Index := Scalar.indexCast v1134
  let c0_807 : Index := 0#32
  ![v1135.toNat, 0]
def k0_off10 (d0 : Dev nD) : Fin 2 → Nat :=
  let c256_i32_820 : BitVec 32 := 256#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.addi v2 v8
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : BitVec 32 := Scalar.addi v10 v21
  let c2_i32_23 : BitVec 32 := 2#32
  let v45 : BitVec 32 := Scalar.addi v22 c2_i32_23
  let c4_i32_24 : BitVec 32 := 4#32
  let c0_i32_25 : BitVec 32 := 0#32
  let v46 : BitVec 1 := Scalar.cmpi .eq c4_i32_24 c0_i32_25
  let c1_i32_26 : BitVec 32 := 1#32
  let v47 : BitVec 32 := Scalar.select v46 c1_i32_26 c4_i32_24
  let v48 : BitVec 32 := Scalar.remsi v45 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let v1151 : BitVec 32 := Scalar.muli c256_i32_820 v55
  let c128_i32_821 : BitVec 32 := 128#32
  let v1152 : BitVec 32 := Scalar.addi v1151 c128_i32_821
  let v1153 : Index := Scalar.indexCast v1152
  let c0_822 : Index := 0#32
  ![v1153.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S1x1024 : Shape := ⟨2, ![1, 1024]⟩
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x2048x1024, .f32⟩
  | .hbm, ⟨3, _⟩ => ⟨S1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Loops.lean ====
/-
# The kernel's body as loops

The printed body is a straight line of statements, cut into parts: the source's Python loops over the eight chunks are
written out. Here the same operations are arranged as the source has them, a handshake, then loops over the chunk number
`k`, and `body_eq` states that the printed body is this arrangement. Every later proof treats one chunk of each loop, for
any `k`.
-/
module

public import proofs.«01_k».proof.Proof.Gen.KernelIdeal.Skeleton

@[expose] public section

noncomputable section

namespace Cert.RingRms

open Cert.KernelIdeal Cert.KernelIdeal.Gen
open Idealize.ShloMosaic Idealize.SL.Sem

variable {F : FTy → Type} [FloatOps F]

local notation "Eff" => TpuEff nD τ sig (Elt F) Λ₀ Proc.tc

/-! ## The buffers -/

/-- The device's half of `partial`: two halves of 1024 rows. -/
abbrev pM : Memref sig .tc .vmem S2048x1024 .f32 := Memref.whole cc0_stg0_0
/-- `gamma`. -/
abbrev gM : Memref sig .tc .vmem S1x1024 .f32 := Memref.whole cc0_stg1_0
/-- The result. -/
abbrev oM : Memref sig .tc .vmem S1024x1024 .f32 := Memref.whole cc0_stg2_0
/-- The outgoing chunks, eight slots. -/
abbrev sM : Memref sig .tc .vmem S8x32x1024 .bf16 := Memref.whole cc0_scratch0
/-- The chunks received from the `y` neighbour, eight slots. -/
abbrev cM : Memref sig .tc .vmem S8x32x1024 .bf16 := Memref.whole cc0_scratch1
/-- The gathered result in `bf16`: the rows of all four devices of the ring. -/
abbrev qM : Memref sig .tc .vmem S1024x1024 .bf16 := Memref.whole cc0_scratch2

abbrev sW : sM.IsWhole := Memref.isWhole_whole _
abbrev cW : cM.IsWhole := Memref.isWhole_whole _
abbrev qW : qM.IsWhole := Memref.isWhole_whole _

/-! ## Semaphores -/

theorem sem8_inb (k : Fin 8) : ∀ a, (![k.val] : Fin 1 → ℕ) a + S1.size a ≤ S8.size a := by revert k; decide
theorem sem2_inb (i : Fin 2) : ∀ a, (![i.val] : Fin 1 → ℕ) a + S1.size a ≤ S2.size a := by revert i; decide

/-- The barrier semaphore. -/
abbrev barS : Sem sig := (SemArray.scalar (sig.barrier 0 rfl) : Sems sig S_).sem
/-- Entry `k` of an array of eight semaphores. -/
abbrev at8 (a : DmaSems sig S8) (k : Fin 8) : DmaSem sig :=
  ((a.slice (Rect.unit (s := S8) ![k.val] S1.size (sem8_inb k))).squeeze S_ squeezes_S1_S_).sem
/-- Entry `i` of an array of two semaphores. -/
abbrev at2 (a : DmaSems sig S2) (i : Fin 2) : DmaSem sig :=
  ((a.slice (Rect.unit (s := S2) ![i.val] S1.size (sem2_inb i))).squeeze S_ squeezes_S1_S_).sem

/-! ## Slots and rows -/

theorem slot_inb (k : Fin 8) : ∀ a, (![k.val, 0, 0] : Fin 3 → ℕ) a + S1x32x1024.size a ≤ S8x32x1024.size a := by
  revert k; decide
/-- Slot `k` of a buffer of eight slots. -/
abbrev slot (k : Fin 8) : Rect S8x32x1024 := Rect.unit (s := S8x32x1024) ![k.val, 0, 0] S1x32x1024.size (slot_inb k)
theorem slot_words : ∀ k : Fin 8, (slot k).WholeWords (EltTy.packing .bf16) := by decide +kernel
theorem slot_packed : ∀ k : Fin 8, (slot k).PackedRows (EltTy.packing .bf16) := by decide +kernel
/-- Slot `k` as a buffer of its own, 32 rows. -/
abbrev slotM (m : Memref sig .tc .vmem S8x32x1024 .bf16) (k : Fin 8) : Memref sig .tc .vmem S32x1024 .bf16 :=
  (m.slice (slot k) (fun _ => rfl)).squeeze S32x1024 squeezes_S1x32x1024_S32x1024

/-- `32 k` as a word. -/
abbrev w (k : Fin 8) : BitVec 32 := BitVec.ofNat 32 (32 * k.val)

/-- Chunk `k` of the half of `p` the neighbour reduces; -/
abbrev rNbr (d : Dev nD) (k : Fin 8) : Rect S2048x1024 :=
  Rect.unit (s := S2048x1024) (k0_off1 d (w k)) S32x1024.size (k0_off1_inb d k)
/-- chunk `k` of the half the device reduces itself; -/
abbrev rMine (d : Dev nD) (k : Fin 8) : Rect S2048x1024 :=
  Rect.unit (s := S2048x1024) (k0_off2 d (w k)) S32x1024.size (k0_off2_inb d k)
/-- chunk `k` of the device's own quarter of the result; -/
abbrev rOwn (d : Dev nD) (k : Fin 8) : Rect S1024x1024 :=
  Rect.unit (s := S1024x1024) (k0_off3 d (w k)) S32x1024.size (k0_off3_inb d k)
/-- the same rows, as the copies address them; -/
abbrev rOwn' (d : Dev nD) (k : Fin 8) : Rect S1024x1024 :=
  Rect.unit (s := S1024x1024) (k0_off4 d (w k)) S32x1024.size (k0_off4_inb d k)
/-- chunk `k` of the quarter of the device behind (`r = 1`) or ahead (`r = 0`); -/
abbrev rIn (d : Dev nD) (r : Fin 2) (k : Fin 8) : Rect S1024x1024 :=
  Rect.unit (s := S1024x1024) (k0_off5 d (BitVec.ofNat 32 (1 + 2 * r.val)) (w k)) S32x1024.size (k0_off5_inb d r k)
/-- the first half of the quarter behind (`r = 1`) or opposite (`r = 0`); -/
abbrev rFst (d : Dev nD) (r : Fin 2) : Rect S1024x1024 :=
  Rect.unit (s := S1024x1024) (k0_off6 d (BitVec.ofNat 32 (2 + r.val))) S128x1024.size (k0_off6_inb d r)
/-- the second half of the quarter ahead (`r = 0`) or opposite (`r = 1`); -/
abbrev rSnd (d : Dev nD) (r : Fin 2) : Rect S1024x1024 :=
  Rect.unit (s := S1024x1024) (k0_off7 d (BitVec.ofNat 32 (1 + r.val))) S128x1024.size (k0_off7_inb d r)
/-- the whole quarter behind (`r = 1`) or ahead (`r = 0`); -/
abbrev rQtr (d : Dev nD) (r : Fin 2) : Rect S1024x1024 :=
  Rect.unit (s := S1024x1024) (k0_off8 d (BitVec.ofNat 32 (1 + 2 * r.val))) S256x1024.size (k0_off8_inb d r)
/-- the first half of the quarter opposite, as the loads and stores address it; -/
abbrev rOpp1 (d : Dev nD) : Rect S1024x1024 := Rect.unit (s := S1024x1024) (k0_off9 d) S128x1024.size (k0_off9_inb d)
/-- and its second half. -/
abbrev rOpp2 (d : Dev nD) : Rect S1024x1024 := Rect.unit (s := S1024x1024) (k0_off10 d) S128x1024.size (k0_off10_inb d)

abbrev rG : Rect S1x1024 := Rect.unit (s := S1x1024) ![0, 0] S1x1024.size inb_S1x1024_S1x1024_0_0

/-- Rows of the gathered buffer as a buffer of their own. -/
abbrev qOwn (d : Dev nD) (k : Fin 8) : Memref sig .tc .vmem S32x1024 .bf16 := qM.slice (rOwn' d k) (fun _ => rfl)
abbrev qIn (d : Dev nD) (r : Fin 2) (k : Fin 8) : Memref sig .tc .vmem S32x1024 .bf16 := qM.slice (rIn d r k) (fun _ => rfl)
abbrev qFst (d : Dev nD) (r : Fin 2) : Memref sig .tc .vmem S128x1024 .bf16 := qM.slice (rFst d r) (fun _ => rfl)
abbrev qSnd (d : Dev nD) (r : Fin 2) : Memref sig .tc .vmem S128x1024 .bf16 := qM.slice (rSnd d r) (fun _ => rfl)
/-- The rows a wait for an arrival names as its source: the first of the buffer, whoever sent. -/
abbrev qTop32 : Memref sig .tc .vmem S32x1024 .bf16 :=
  qM.slice (Rect.unit (s := S1024x1024) ![0, 0] S32x1024.size inb_S1024x1024_S32x1024_0_0) (fun _ => rfl)
abbrev qTop128 : Memref sig .tc .vmem S128x1024 .bf16 :=
  qM.slice (Rect.unit (s := S1024x1024) ![0, 0] S128x1024.size inb_S1024x1024_S128x1024_0_0) (fun _ => rfl)

/-! ## The devices addressed -/

abbrev devY (d : Dev nD) : Dev nD := ⟨k0_dev1 d, k0_dev1_lt d⟩
abbrev devN (d : Dev nD) : Dev nD := ⟨k0_dev2 d, k0_dev2_lt d⟩
abbrev devP (d : Dev nD) : Dev nD := ⟨k0_dev3 d, k0_dev3_lt d⟩

/-! ## What is computed -/

/-- A chunk on its way to the neighbour: 32 rows of `p`, in `bf16`. -/
abbrev stageOf (v : Vec F S32x1024 .f32) : FVec F S1x32x1024 .bf16 := k0_pay3 v
/-- A finished chunk: 32 rows of `p`, the neighbour's 32 rows, `gamma`. -/
abbrev chunkOf (v : Vec F S32x1024 .f32) (u : Vec F S1x32x1024 .bf16) (g : Vec F S1x1024 .f32) : FVec F S32x1024 .f32 := k0_pay14 v u g
/-- The same in `bf16`. -/
abbrev halfOf (v : Vec F S32x1024 .f32) (u : Vec F S1x32x1024 .bf16) (g : Vec F S1x1024 .f32) : FVec F S32x1024 .bf16 := k0_pay15 v u g

/-! ## The loops -/

/-- `f` for each number of the list, in order. -/
def each {E : Type → Type} : List (Fin 8) → (Fin 8 → Prog E PUnit) → Prog E PUnit
  | [], _ => .ret ⟨⟩
  | k :: ks, f => f k >>= fun _ => each ks f

/-- Signal the three neighbours, wait for their three signals. -/
def handshake (d : Dev nD) : Prog Eff PUnit := do
  semSignalWord (devY d) barS 1#32
  semSignalWord (devN d) barS 1#32
  semSignalWord (devP d) barS 1#32
  semWaitWord barS 3#32

/-- Chunk `k` sent to the `y` neighbour. -/
def sendUp (d : Dev nD) (k : Fin 8) : Prog Eff PUnit := do
  let v ← Prog.lift (.load pM (rNbr d k).toLoadRect (View.loadsAt_vmem h_S32x1024))
  let _ ← Prog.lift (.load sM (slot k).toLoadRect (View.loadsAt_vmem h_S1x32x1024))
  Prog.lift (.store sM (slot k) (stageOf v) Finset.univ
    (View.stores_vmem h_S1x32x1024 (sW.storeExact_slice rfl _ (slot_packed k)) (fun _ => rfl)) (.inl rfl))
  Prog.lift (.enqueueDma (slotM sM k) (.remote (Dev.tc (devY d)) (slotM cM k) (.dma (at8 cc0_scratch3 k))) (.dma (at8 cc0_scratch4 k))
    ((sW.wordExact_slice rfl _ (slot_words k)).reshape _ _) ((cW.wordExact_slice rfl _ (slot_words k)).reshape _ _)
    ⟨⟨rfl, Or.inl rfl⟩, trivial⟩)

/-- Chunk `k` reduced, scaled, stored, and sent both ways around the ring. -/
def finish (d : Dev nD) (k : Fin 8) : Prog Eff PUnit := do
  Prog.lift (.waitDma2 (at8 cc0_scratch4 k) (slotM sM k) (slotM cM k)
    ((sW.wordExact_slice rfl _ (slot_words k)).reshape _ _) ((cW.wordExact_slice rfl _ (slot_words k)).reshape _ _))
  let v ← Prog.lift (.load pM (rMine d k).toLoadRect (View.loadsAt_vmem h_S32x1024))
  let u ← Prog.lift (.load cM (slot k).toLoadRect (View.loadsAt_vmem h_S1x32x1024))
  let g ← Prog.lift (.load gM rG.toLoadRect (View.loadsAt_vmem h_S1x1024))
  let _ ← Prog.lift (.load oM (rOwn d k).toLoadRect (View.loadsAt_vmem h_S32x1024))
  Prog.lift (.store oM (rOwn d k) (chunkOf v u g) Finset.univ (View.stores_vmem_bits_univ h_S32x1024 rfl) (.inl rfl))
  let _ ← Prog.lift (.load qM (rOwn d k).toLoadRect (View.loadsAt_vmem h_S32x1024))
  Prog.lift (.store qM (rOwn d k) (halfOf v u g) Finset.univ
    (View.stores_vmem h_S32x1024 (qW.storeExact_slice rfl _ (k0_off3_packedbf16 d k)) (fun _ => rfl)) (.inl rfl))
  Prog.lift (.enqueueDma (qOwn d k) (.remote (Dev.tc (devN d)) (qOwn d k) (.dma (at8 cc0_scratch5 k))) (.dma (at8 cc0_scratch7 k))
    (qW.wordExact_slice rfl _ (k0_off4_wordsbf16 d k)) (qW.wordExact_slice rfl _ (k0_off4_wordsbf16 d k)) ⟨⟨rfl, Or.inl rfl⟩, trivial⟩)
  Prog.lift (.enqueueDma (qOwn d k) (.remote (Dev.tc (devP d)) (qOwn d k) (.dma (at8 cc0_scratch6 k))) (.dma (at8 cc0_scratch8 k))
    (qW.wordExact_slice rfl _ (k0_off4_wordsbf16 d k)) (qW.wordExact_slice rfl _ (k0_off4_wordsbf16 d k)) ⟨⟨rfl, Or.inl rfl⟩, trivial⟩)

/-- Wait for chunk `k` of the device behind; -/
def fromPrev (d : Dev nD) (k : Fin 8) : Prog Eff PUnit :=
  Prog.lift (.waitDma2 (at8 cc0_scratch7 k) qTop32 (qIn d 1 k)
    (qW.wordExact_slice rfl _ wordsbf16_S1024x1024_S32x1024_0_0) (qW.wordExact_slice rfl _ (k0_off5_wordsbf16 d 1 k)))
/-- of the device ahead. -/
def fromNext (d : Dev nD) (k : Fin 8) : Prog Eff PUnit :=
  Prog.lift (.waitDma2 (at8 cc0_scratch8 k) qTop32 (qIn d 0 k)
    (qW.wordExact_slice rfl _ wordsbf16_S1024x1024_S32x1024_0_0) (qW.wordExact_slice rfl _ (k0_off5_wordsbf16 d 0 k)))

/-- The first half of the quarter behind, passed on to the device ahead. -/
def forward1 (d : Dev nD) : Prog Eff PUnit :=
  Prog.lift (.enqueueDma (qFst d 1) (.remote (Dev.tc (devN d)) (qFst d 1) (.dma (at2 cc0_scratch9 0))) (.dma cc0_scratch10.sem)
    (qW.wordExact_slice rfl _ (k0_off6_wordsbf16 d 1)) (qW.wordExact_slice rfl _ (k0_off6_wordsbf16 d 1)) ⟨⟨rfl, Or.inl rfl⟩, trivial⟩)
/-- The second half of the quarter ahead, passed on to the device behind. -/
def forward2 (d : Dev nD) : Prog Eff PUnit :=
  Prog.lift (.enqueueDma (qSnd d 0) (.remote (Dev.tc (devP d)) (qSnd d 0) (.dma (at2 cc0_scratch9 1))) (.dma cc0_scratch11.sem)
    (qW.wordExact_slice rfl _ (k0_off7_wordsbf16 d 0)) (qW.wordExact_slice rfl _ (k0_off7_wordsbf16 d 0)) ⟨⟨rfl, Or.inl rfl⟩, trivial⟩)

/-- The quarter behind (`r = 1`) or ahead (`r = 0`) widened into the result. -/
def widen256 (d : Dev nD) (r : Fin 2) : Prog Eff PUnit := do
  let v ← Prog.lift (.load qM (rQtr d r).toLoadRect (View.loadsAt_vmem h_S256x1024))
  let _ ← Prog.lift (.load oM (rQtr d r).toLoadRect (View.loadsAt_vmem h_S256x1024))
  Prog.lift (.store oM (rQtr d r) (k0_pay34 v) Finset.univ (View.stores_vmem_bits_univ h_S256x1024 rfl) (.inl rfl))

/-- Wait for the first half of the quarter opposite and widen it into the result; -/
def opposite1 (d : Dev nD) : Prog Eff PUnit := do
  Prog.lift (.waitDma2 cc0_scratch10.sem qTop128 (qFst d 0)
    (qW.wordExact_slice rfl _ wordsbf16_S1024x1024_S128x1024_0_0) (qW.wordExact_slice rfl _ (k0_off6_wordsbf16 d 0)))
  let v ← Prog.lift (.load qM (rOpp1 d).toLoadRect (View.loadsAt_vmem h_S128x1024))
  let _ ← Prog.lift (.load oM (rOpp1 d).toLoadRect (View.loadsAt_vmem h_S128x1024))
  Prog.lift (.store oM (rOpp1 d) (k0_pay36 v) Finset.univ (View.stores_vmem_bits_univ h_S128x1024 rfl) (.inl rfl))
/-- the second half. -/
def opposite2 (d : Dev nD) : Prog Eff PUnit := do
  Prog.lift (.waitDma2 cc0_scratch11.sem qTop128 (qSnd d 1)
    (qW.wordExact_slice rfl _ wordsbf16_S1024x1024_S128x1024_0_0) (qW.wordExact_slice rfl _ (k0_off7_wordsbf16 d 1)))
  let v ← Prog.lift (.load qM (rOpp2 d).toLoadRect (View.loadsAt_vmem h_S128x1024))
  let _ ← Prog.lift (.load oM (rOpp2 d).toLoadRect (View.loadsAt_vmem h_S128x1024))
  Prog.lift (.store oM (rOpp2 d) (k0_pay37 v) Finset.univ (View.stores_vmem_bits_univ h_S128x1024 rfl) (.inl rfl))

/-- Wait until chunk `k` has left for the `y` neighbour; -/
def sentUp (k : Fin 8) : Prog Eff PUnit :=
  Prog.lift (.waitDma2 (at8 cc0_scratch3 k) (slotM cM k) (slotM sM k)
    ((cW.wordExact_slice rfl _ (slot_words k)).reshape _ _) ((sW.wordExact_slice rfl _ (slot_words k)).reshape _ _))
/-- until it has left both ways around the ring; -/
def sentAround (d : Dev nD) (k : Fin 8) : Prog Eff PUnit := do
  Prog.lift (.waitDma2 (at8 cc0_scratch5 k) (qOwn d k) (qOwn d k)
    (qW.wordExact_slice rfl _ (k0_off4_wordsbf16 d k)) (qW.wordExact_slice rfl _ (k0_off4_wordsbf16 d k)))
  Prog.lift (.waitDma2 (at8 cc0_scratch6 k) (qOwn d k) (qOwn d k)
    (qW.wordExact_slice rfl _ (k0_off4_wordsbf16 d k)) (qW.wordExact_slice rfl _ (k0_off4_wordsbf16 d k)))
/-- until the passed-on half quarters have left. -/
def sentOn1 (d : Dev nD) : Prog Eff PUnit :=
  Prog.lift (.waitDma2 (at2 cc0_scratch9 0) (qFst d 1) (qFst d 1)
    (qW.wordExact_slice rfl _ (k0_off6_wordsbf16 d 1)) (qW.wordExact_slice rfl _ (k0_off6_wordsbf16 d 1)))
def sentOn2 (d : Dev nD) : Prog Eff PUnit :=
  Prog.lift (.waitDma2 (at2 cc0_scratch9 1) (qSnd d 0) (qSnd d 0)
    (qW.wordExact_slice rfl _ (k0_off7_wordsbf16 d 0)) (qW.wordExact_slice rfl _ (k0_off7_wordsbf16 d 0)))

abbrev all8 : List (Fin 8) := [0, 1, 2, 3, 4, 5, 6, 7]
abbrev lo4 : List (Fin 8) := [0, 1, 2, 3]
abbrev hi4 : List (Fin 8) := [4, 5, 6, 7]

/-- The whole body on device `d`. -/
def bodyOn (d : Dev nD) : Prog Eff PUnit := do
  handshake d
  each all8 (sendUp d)
  each all8 (finish d)
  each lo4 (fromPrev d)
  forward1 d
  each hi4 (fromNext d)
  forward2 d
  each hi4 (fromPrev d)
  widen256 d 1
  each lo4 (fromNext d)
  widen256 d 0
  opposite1 d
  opposite2 d
  each all8 sentUp
  each all8 (sentAround d)
  sentOn1 d
  sentOn2 d

/-- The printed body. -/
abbrev printed : Prog Eff PUnit :=
  cc0_body pM (Memref.isWhole_whole _) gM (Memref.isWhole_whole _) oM (Memref.isWhole_whole _) sM sW cM cW qM qW
    cc0_scratch3 cc0_scratch4 cc0_scratch5 cc0_scratch6 cc0_scratch7 cc0_scratch8 cc0_scratch9 cc0_scratch10 cc0_scratch11

set_option maxRecDepth 65536 in
/-- The printed body is the arranged one. -/
theorem body_eq : (printed : Prog Eff PUnit) = (Prog.lift .deviceId >>= fun d => bodyOn d) := by
  rfl

end Cert.RingRms

end
-- ==== Proof.Rows.lean ====
/-
# Devices and rows

The mesh has eight devices, numbered `4 x + 2 y + z`. Four devices with the same `y` form a ring; device `d` stands at
position `rho d` of its ring, and holds quarter `rho d` of the ring's 1024 rows. This module computes the addresses and the
devices the body names, in closed form, and the element sets its rectangles denote: intervals of rows.
-/
module

public import proofs.«01_k».proof.Proof.Loops

@[expose] public section

noncomputable section

namespace Cert.RingRms

open Cert.KernelIdeal Cert.KernelIdeal.Gen
open Idealize.ShloMosaic Idealize.SL.Sem

/-! ## Positions on the ring -/

/-- Position of a device on its ring. -/
def rho (d : Dev nD) : Fin 4 := ⟨(2 * (d.val % 2) + (d.val / 4 + d.val % 2) % 2) % 4, Nat.mod_lt _ (by decide)⟩
/-- The half of the rows of `partial` the device reduces: its `y`. -/
def half (d : Dev nD) : Fin 2 := ⟨d.val / 2 % 2, Nat.mod_lt _ (by decide)⟩
/-- The device at position `j` of the ring of `d`. -/
def ringAt (d : Dev nD) (j : Fin 4) : Dev nD :=
  ⟨(4 * ((j.val % 2 + j.val / 2) % 2) + 2 * (d.val / 2 % 2) + j.val / 2) % 8, Nat.mod_lt _ (by decide)⟩

theorem devY_devY (d : Dev nD) : devY (devY d) = d := by revert d; decide +kernel
theorem devN_devP (d : Dev nD) : devN (devP d) = d := by revert d; decide +kernel
theorem devP_devN (d : Dev nD) : devP (devN d) = d := by revert d; decide +kernel
theorem rho_devN (d : Dev nD) : rho (devN d) = rho d + 1 := by revert d; decide +kernel
theorem rho_devP (d : Dev nD) : rho (devP d) = rho d + 3 := by revert d; decide +kernel
theorem rho_devY (d : Dev nD) : rho (devY d) = rho d := by revert d; decide +kernel
theorem half_devY (d : Dev nD) : half (devY d) = 1 - half d := by revert d; decide +kernel
theorem ringAt_rho (d : Dev nD) : ringAt d (rho d) = d := by revert d; decide +kernel
theorem ringAt_devN (d : Dev nD) : ringAt (devN d) = ringAt d := by revert d; decide +kernel
theorem ringAt_devP (d : Dev nD) : ringAt (devP d) = ringAt d := by revert d; decide +kernel
theorem rho_ringAt (d : Dev nD) (j : Fin 4) : rho (ringAt d j) = j := by revert d j; decide +kernel
theorem half_ringAt (d : Dev nD) (j : Fin 4) : half (ringAt d j) = half d := by revert d j; decide +kernel

/-- The neighbour across `y`, as a permutation; -/
def eY : Dev nD ≃ Dev nD := ⟨fun d => devY d, fun d => devY d, devY_devY, devY_devY⟩
/-- the device ahead on the ring; -/
def eN : Dev nD ≃ Dev nD := ⟨fun d => devN d, fun d => devP d, devP_devN, devN_devP⟩
/-- the device behind. -/
def eP : Dev nD ≃ Dev nD := ⟨fun d => devP d, fun d => devN d, devN_devP, devP_devN⟩

/-! ## Addresses -/

theorem off1_eq : ∀ (d : Dev nD) (k : Fin 8), k0_off1 d (w k) = ![1024 * (1 - half d).val + 256 * (rho d).val + 32 * k.val, 0] := by
  decide +kernel
theorem off2_eq : ∀ (d : Dev nD) (k : Fin 8), k0_off2 d (w k) = ![1024 * (half d).val + 256 * (rho d).val + 32 * k.val, 0] := by
  decide +kernel
theorem off3_eq : ∀ (d : Dev nD) (k : Fin 8), k0_off3 d (w k) = ![256 * (rho d).val + 32 * k.val, 0] := by decide +kernel
theorem off4_eq : ∀ (d : Dev nD) (k : Fin 8), k0_off4 d (w k) = ![256 * (rho d).val + 32 * k.val, 0] := by decide +kernel
theorem off5_eq : ∀ (d : Dev nD) (r : Fin 2) (k : Fin 8), k0_off5 d (BitVec.ofNat 32 (1 + 2 * r.val)) (w k)
    = ![256 * (rho d + (if r = 0 then 1 else 3)).val + 32 * k.val, 0] := by decide +kernel
theorem off6_eq : ∀ (d : Dev nD) (r : Fin 2), k0_off6 d (BitVec.ofNat 32 (2 + r.val))
    = ![256 * (rho d + (if r = 0 then 2 else 3)).val, 0] := by decide +kernel
theorem off7_eq : ∀ (d : Dev nD) (r : Fin 2), k0_off7 d (BitVec.ofNat 32 (1 + r.val))
    = ![256 * (rho d + (if r = 0 then 1 else 2)).val + 128, 0] := by decide +kernel
theorem off8_eq : ∀ (d : Dev nD) (r : Fin 2), k0_off8 d (BitVec.ofNat 32 (1 + 2 * r.val))
    = ![256 * (rho d + (if r = 0 then 1 else 3)).val, 0] := by decide +kernel
theorem off9_eq : ∀ d : Dev nD, k0_off9 d = ![256 * (rho d + 2).val, 0] := by decide +kernel
theorem off10_eq : ∀ d : Dev nD, k0_off10 d = ![256 * (rho d + 2).val + 128, 0] := by decide +kernel

/-! ## Intervals of rows -/

/-- The elements of rows `a`, …, `b - 1`. -/
def rows (a b : ℕ) : Finset S1024x1024.Idx := Finset.univ.filter fun i => a ≤ (i 0).val ∧ (i 0).val < b

theorem mem_rows {a b : ℕ} {i : S1024x1024.Idx} : i ∈ rows a b ↔ a ≤ (i 0).val ∧ (i 0).val < b := by
  unfold rows; rw [Finset.mem_filter]; exact ⟨fun h => h.2, fun h => ⟨Finset.mem_univ _, h⟩⟩

/-- A block of whole rows is an interval of rows. -/
theorem set_rows {off sz : Fin 2 → ℕ} {inb : ∀ a, off a + sz a ≤ S1024x1024.size a} (a n : ℕ) (ho : off = ![a, 0]) (hs : sz = ![n, 1024]) :
    (Rect.unit (s := S1024x1024) off sz inb).set = rows a (a + n) := by
  subst ho; subst hs
  ext i
  rw [Rect.mem_set_unit, mem_rows]
  constructor
  · intro h; exact h 0
  · intro h b
    fin_cases b
    · exact h
    · exact ⟨Nat.zero_le _, by have := (i 1).isLt; simpa using this⟩

theorem rows_union {a b c : ℕ} (h₁ : a ≤ b) (h₂ : b ≤ c) : rows a b ∪ rows b c = rows a c := by
  ext i; rw [Finset.mem_union, mem_rows, mem_rows, mem_rows]; omega
theorem rows_disjoint {a b b' c : ℕ} (h : b ≤ b') : Disjoint (rows a b) (rows b' c) :=
  Finset.disjoint_left.mpr fun i h₁ h₂ => by rw [mem_rows] at h₁ h₂; omega
theorem rows_all : rows 0 1024 = Finset.univ := by
  ext i; rw [mem_rows]; exact ⟨fun _ => Finset.mem_univ _, fun _ => ⟨Nat.zero_le _, (i 0).isLt⟩⟩
theorem rows_self (a : ℕ) : rows a a = ∅ := by
  ext i; rw [mem_rows]; exact ⟨fun h => absurd h.2 (by omega), fun h => absurd h (Finset.notMem_empty _)⟩

/-- First row of quarter `j`. -/
abbrev base (j : Fin 4) : ℕ := 256 * j.val
/-- Rows of quarter `j`; -/
abbrev qtr (j : Fin 4) : Finset S1024x1024.Idx := rows (base j) (base j + 256)
/-- of its first half; -/
abbrev fst (j : Fin 4) : Finset S1024x1024.Idx := rows (base j) (base j + 128)
/-- of its second half; -/
abbrev snd (j : Fin 4) : Finset S1024x1024.Idx := rows (base j + 128) (base j + 256)
/-- of its chunk `k`. -/
abbrev chk (j : Fin 4) (k : Fin 8) : Finset S1024x1024.Idx := rows (base j + 32 * k.val) (base j + 32 * k.val + 32)

/-- Elements of slot `k` of a buffer of eight slots. -/
def slotS (k : Fin 8) : Finset S8x32x1024.Idx := (slot k).set

theorem mem_slotS {k : Fin 8} {i : S8x32x1024.Idx} : i ∈ slotS k ↔ (i 0).val = k.val := by
  unfold slotS
  rw [Rect.mem_set_unit]
  constructor
  · intro h
    have h0 : k.val ≤ (i 0).val ∧ (i 0).val < k.val + 1 := h 0
    omega
  · intro h a
    have h1 := (i 1).isLt
    have h2 := (i 2).isLt
    fin_cases a
    · exact ⟨le_of_eq h.symm, show (i 0).val < k.val + 1 by omega⟩
    · exact ⟨Nat.zero_le _, by simpa using h1⟩
    · exact ⟨Nat.zero_le _, by simpa using h2⟩

/-! ## The rectangles' elements -/

theorem rOwn_set (d : Dev nD) (k : Fin 8) : (rOwn d k).set = chk (rho d) k := set_rows _ 32 (off3_eq d k) rfl
theorem rOwn'_set (d : Dev nD) (k : Fin 8) : (rOwn' d k).set = chk (rho d) k := set_rows _ 32 (off4_eq d k) rfl
theorem rIn_set (d : Dev nD) (r : Fin 2) (k : Fin 8) : (rIn d r k).set = chk (rho d + (if r = 0 then 1 else 3)) k :=
  set_rows _ 32 (off5_eq d r k) rfl
theorem rFst_set (d : Dev nD) (r : Fin 2) : (rFst d r).set = fst (rho d + (if r = 0 then 2 else 3)) := set_rows _ 128 (off6_eq d r) rfl
theorem rSnd_set (d : Dev nD) (r : Fin 2) : (rSnd d r).set = snd (rho d + (if r = 0 then 1 else 2)) := set_rows _ 128 (off7_eq d r) rfl
theorem rQtr_set (d : Dev nD) (r : Fin 2) : (rQtr d r).set = qtr (rho d + (if r = 0 then 1 else 3)) := set_rows _ 256 (off8_eq d r) rfl
theorem rOpp1_set (d : Dev nD) : (rOpp1 d).set = fst (rho d + 2) := set_rows _ 128 (off9_eq d) rfl
theorem rOpp2_set (d : Dev nD) : (rOpp2 d).set = snd (rho d + 2) := set_rows _ 128 (off10_eq d) rfl

end Cert.RingRms

end
-- ==== Proof.Contents.lean ====
/-
# What the buffers hold

`p d` is what device `d` holds of `partial`, `g d` its `gamma`. From these: the outgoing slots of a device, its finished
chunks, the gathered rows of a ring, the result. Then what the body's loads read from these contents, and that its stores
and copies write them.
-/
module

public import proofs.«01_k».proof.Proof.Rows

@[expose] public section

noncomputable section

namespace Cert.RingRms

open Cert.KernelIdeal Cert.KernelIdeal.Gen
open Idealize.ShloMosaic Idealize.SL.Sem

variable {F : FTy → Type} [FloatOps F]
variable (p : Dev nD → Vec F S2048x1024 .f32) (g : Dev nD → Vec F S1x1024 .f32)

/-- Row `r` of a chunk, column `c`. -/
abbrev at32 (r : Fin 32) (c : Fin 1024) : S32x1024.Idx := fun a => match a with | ⟨0, _⟩ => r | ⟨1, _⟩ => c
abbrev at132 (r : Fin 32) (c : Fin 1024) : S1x32x1024.Idx := fun a => match a with | ⟨0, _⟩ => (0 : Fin 1) | ⟨1, _⟩ => r | ⟨2, _⟩ => c

/-- The outgoing slots of device `d`: chunk `k` of the half its neighbour reduces, in `bf16`. -/
def outgoing (d : Dev nD) : Vec F S8x32x1024 .bf16 := fun i =>
  stageOf (pM.view.readAt (Elt F) (rNbr d (i 0)).toLoadRect (p d)) (at132 (i 1) (i 2))

/-- Finished chunk `k` of device `d`; -/
def chunk (d : Dev nD) (k : Fin 8) : FVec F S32x1024 .f32 :=
  chunkOf (pM.view.readAt (Elt F) (rMine d k).toLoadRect (p d)) (cM.view.readAt (Elt F) (slot k).toLoadRect (outgoing p (devY d)))
    (gM.view.readAt (Elt F) rG.toLoadRect (g d))
/-- in `bf16`. -/
def chunk16 (d : Dev nD) (k : Fin 8) : FVec F S32x1024 .bf16 :=
  halfOf (pM.view.readAt (Elt F) (rMine d k).toLoadRect (p d)) (cM.view.readAt (Elt F) (slot k).toLoadRect (outgoing p (devY d)))
    (gM.view.readAt (Elt F) rG.toLoadRect (g d))

theorem quarter_lt (i : S1024x1024.Idx) : (i 0).val / 256 < 4 := by have : (i 0).val < 1024 := (i 0).isLt; omega
/-- The quarter of a row, -/
def quarter (i : S1024x1024.Idx) : Fin 4 := ⟨(i 0).val / 256, quarter_lt i⟩
/-- its chunk in the quarter, -/
def chunkNo (i : S1024x1024.Idx) : Fin 8 := ⟨(i 0).val % 256 / 32, by have := Nat.mod_lt (i 0).val (show 0 < 256 by decide); omega⟩
/-- its place in the chunk. -/
def inChunk (i : S1024x1024.Idx) : S32x1024.Idx := at32 ⟨(i 0).val % 32, Nat.mod_lt _ (by decide)⟩ (i 1)

/-- The gathered rows on the ring of `d`: quarter `j` from the device at position `j`. -/
def gathered (d : Dev nD) : Vec F S1024x1024 .bf16 := fun i => chunk16 p g (ringAt d (quarter i)) (chunkNo i) (inChunk i)

/-- The result on device `d`: its own quarter as computed, the other three widened from `bf16`. -/
def result (d : Dev nD) : Vec F S1024x1024 .f32 := fun i =>
  if quarter i = rho d then chunk p g d (chunkNo i) (inChunk i)
  else FloatOps.extf .f32 bitsLt_bf16_f32 (gathered p g d i)

theorem gathered_devN (d : Dev nD) : gathered p g (devN d) = gathered p g d := by unfold gathered; rw [ringAt_devN]
theorem gathered_devP (d : Dev nD) : gathered p g (devP d) = gathered p g d := by unfold gathered; rw [ringAt_devP]

/-! ## Places -/

theorem coord_unit {off sz : Fin 2 → ℕ} {inb : ∀ a, off a + sz a ≤ S1024x1024.size a} {a : ℕ} (ho : off = ![a, 0])
    (x : (Rect.unit (s := S1024x1024) off sz inb).shape.Idx) :
    (((Rect.unit (s := S1024x1024) off sz inb).emb x) 0).val = a + (x 0).val ∧ (((Rect.unit (s := S1024x1024) off sz inb).emb x) 1).val = (x 1).val := by
  subst ho
  constructor
  · rw [Rect.emb_apply]; show a + 1 * (x 0).val = _; omega
  · rw [Rect.emb_apply]; show 0 + 1 * (x 1).val = _; omega

theorem coord_own (d : Dev nD) (k : Fin 8) (x : S32x1024.Idx) :
    (((rOwn d k).emb x) 0).val = 256 * (rho d).val + 32 * k.val + (x 0).val ∧ (((rOwn d k).emb x) 1).val = (x 1).val :=
  coord_unit (inb := k0_off3_inb d k) (off3_eq d k) x

theorem quarter_own (d : Dev nD) (k : Fin 8) (x : S32x1024.Idx) : quarter ((rOwn d k).emb x) = rho d := by
  have h := (coord_own d k x).1
  have hx : (x 0).val < 32 := (x 0).isLt
  apply Fin.ext; show (((rOwn d k).emb x) 0).val / 256 = _
  rw [h]; omega
theorem chunkNo_own (d : Dev nD) (k : Fin 8) (x : S32x1024.Idx) : chunkNo ((rOwn d k).emb x) = k := by
  have h := (coord_own d k x).1
  have hx : (x 0).val < 32 := (x 0).isLt
  apply Fin.ext; show (((rOwn d k).emb x) 0).val % 256 / 32 = _
  rw [h]; omega
theorem inChunk_own (d : Dev nD) (k : Fin 8) (x : S32x1024.Idx) : inChunk ((rOwn d k).emb x) = x := by
  obtain ⟨h, h'⟩ := coord_own d k x
  have hx : (x 0).val < 32 := (x 0).isLt
  funext a
  apply Fin.ext
  fin_cases a
  · show (((rOwn d k).emb x) 0).val % 32 = (x 0).val
    rw [h]; omega
  · exact h'

theorem quarter_of {j : Fin 4} {i : S1024x1024.Idx} (h : i ∈ qtr j) : quarter i = j := by
  rw [mem_rows] at h
  apply Fin.ext; show (i 0).val / 256 = j.val
  have := h.1; have := h.2
  simp only [base] at *
  omega

/-! ## Loads and stores -/

/-- Reading the finished chunk off the result; -/
theorem read_result_own (d : Dev nD) (k : Fin 8) : (oM.access (rOwn d k)).read (Elt F) (result p g d) = chunk p g d k :=
  funext fun x => by
    show result p g d ((rOwn d k).emb x) = _
    unfold result
    rw [if_pos (quarter_own d k x), chunkNo_own, inChunk_own]
/-- off the gathered rows. -/
theorem read_gathered_own (d : Dev nD) (k : Fin 8) : (qM.access (rOwn d k)).read (Elt F) (gathered p g d) = chunk16 p g d k :=
  funext fun x => by
    show gathered p g d ((rOwn d k).emb x) = _
    unfold gathered
    rw [quarter_own d k x, ringAt_rho, chunkNo_own, inChunk_own]
/-- Off the device's own quarter the result is the gathered rows, widened. -/
theorem result_off {d : Dev nD} {i : S1024x1024.Idx} (h : quarter i ≠ rho d) :
    result p g d i = FloatOps.extf .f32 bitsLt_bf16_f32 (gathered p g d i) := by unfold result; rw [if_neg h]

theorem at132_eq (x : S1x32x1024.Idx) : at132 (x 1) (x 2) = x := by
  funext a
  fin_cases a
  · exact Fin.ext (by have : (x 0).val < 1 := (x 0).isLt; show 0 = (x 0).val; omega)
  · rfl
  · rfl

/-- Reading slot `k` of the outgoing slots. -/
theorem read_outgoing (d : Dev nD) (k : Fin 8) :
    (sM.access (slot k)).read (Elt F) (outgoing p d) = stageOf (pM.view.readAt (Elt F) (rNbr d k).toLoadRect (p d)) :=
  funext fun x => by
    show outgoing p d ((slot k).emb x) = _
    have h0 : ((slot k).emb x) 0 = k := Fin.ext (by
      rw [Rect.emb_apply]; have : (x 0).val < 1 := (x 0).isLt; show k.val + 1 * (x 0).val = k.val; omega)
    have h1 : ((slot k).emb x) 1 = x 1 := Fin.ext (by rw [Rect.emb_apply]; show 0 + 1 * (x 1).val = _; omega)
    have h2 : ((slot k).emb x) 2 = x 2 := Fin.ext (by rw [Rect.emb_apply]; show 0 + 1 * (x 2).val = _; omega)
    unfold outgoing
    rw [h0, h1, h2]
    exact congrArg _ (at132_eq x)

end Cert.RingRms

end
-- ==== Proof.Cells.lean ====
/-
# The semaphores, and what each hands over

One cell per device and semaphore: the barrier, which three neighbours raise by one each, and a cell for each transfer, which
that transfer raises by its size. Each is used in one round. A cell's payload is what its owner gets for waiting:

* the barrier: from each neighbour, the rows of that neighbour's buffers this device will write;
* the arrival of a transfer: the rows written, with their contents;
* the departure of a transfer: the rows read, at the share they were lent at.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds and the kernel's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The transfers -/

/-- The six families of eight: a chunk's departure to and arrival from the `y` neighbour, its departures to the device ahead
    and the device behind, its arrivals from the device behind and the device ahead. -/
inductive Fam | upS | upR | aheadS | behindS | behindR | aheadR
  deriving DecidableEq
instance : Fintype Fam := ⟨{.upS, .upR, .aheadS, .behindS, .behindR, .aheadR}, fun f => by cases f <;> decide⟩
/-- The passed-on half quarters: departures ahead and behind, arrivals from behind and ahead. -/
inductive Fwd | aheadS | behindS | behindR | aheadR
  deriving DecidableEq
instance : Fintype Fwd := ⟨{.aheadS, .behindS, .behindR, .aheadR}, fun f => by cases f <;> decide⟩

/-- The ends of the transfers. -/
abbrev End : Type := (Fam × Fin 8) ⊕ Fwd
/-- The cells of a device: the barrier (`none`), the ends. -/
abbrev Cel : Type := Option End

/-- The semaphore of an end; -/
def endSem : End → DmaSem sig
  | .inl (.upS, k) => at8 cc0_scratch3 k
  | .inl (.upR, k) => at8 cc0_scratch4 k
  | .inl (.aheadS, k) => at8 cc0_scratch5 k
  | .inl (.behindS, k) => at8 cc0_scratch6 k
  | .inl (.behindR, k) => at8 cc0_scratch7 k
  | .inl (.aheadR, k) => at8 cc0_scratch8 k
  | .inr .aheadS => at2 cc0_scratch9 0
  | .inr .behindS => at2 cc0_scratch9 1
  | .inr .behindR => cc0_scratch10.sem
  | .inr .aheadR => cc0_scratch11.sem
/-- of a cell. -/
def celSem : Cel → SemLoc sig
  | none => .reg barS
  | some x => .dma (endSem x)

set_option maxRecDepth 4000 in
theorem endSem_injective : Function.Injective endSem := by
  have h : ∀ x y : End, endSem x = endSem y → x = y := by decide +kernel
  exact fun x y => h x y
theorem celSem_injective : Function.Injective celSem := by
  intro x y h
  cases x <;> cases y
  · rfl
  · cases h
  · cases h
  · exact congrArg some (endSem_injective (SemLoc.dma.inj h))

open Classical in
/-- The cell of a semaphore, if it is one of these. -/
def celOf (s : SemLoc sig) : Option Cel := if h : ∃ x, celSem x = s then some h.choose else none
theorem celOf_sem (x : Cel) : celOf (celSem x) = some x := by
  have h : ∃ y, celSem y = celSem x := ⟨x, rfl⟩
  unfold celOf; rw [dif_pos h]; exact congrArg some (celSem_injective h.choose_spec)
theorem celOf_none {s : SemLoc sig} (h : ∀ x, celSem x ≠ s) : celOf s = none := by
  unfold celOf; rw [dif_neg (fun ⟨x, hx⟩ => h x hx)]

/-- Cell `x` of device `c`. -/
abbrev cell (c : Dev nD) (x : Cel) : GSem nD τ sig := ((c : Thread nD τ), celSem x)
abbrev cellE (c : Dev nD) (x : End) : GSem nD τ sig := cell c (some x)

theorem cell_inj {c c' : Dev nD} {x x' : Cel} (h : cell c x = cell c' x') : c = c' ∧ x = x' :=
  ⟨congrArg (fun g : GSem nD τ sig => g.1.1) h, celSem_injective (congrArg Prod.snd h)⟩

/-! ## Sizes -/

/-- What a transfer of 32 rows into the receive slots counts; -/
abbrev nUp : ℕ := (slotM cM 0).view.dmaCredit
/-- of 32 gathered rows; -/
abbrev n32 : ℕ := qTop32.view.dmaCredit
/-- of 128. -/
abbrev n128 : ℕ := qTop128.view.dmaCredit

/-- What an end's transfer counts. -/
def size : End → ℕ
  | .inl (.upS, _) | .inl (.upR, _) => nUp
  | .inl _ => n32
  | .inr _ => n128
theorem size_pos (x : End) : 0 < size x := by
  rcases x with ⟨f, k⟩ | f <;> cases f <;> exact View.dmaCredit_pos _ (by decide)

/-! ## The payloads -/

section Payload
variable (p : Dev nD → Vec F S2048x1024 .f32) (g : Dev nD → Vec F S1x1024 .f32)

/-- Rows `S` of the gathered buffer of device `c` hold `f`, at share `q`. -/
def qPts (c : Dev nD) (S : Finset S1024x1024.Idx) (q : PosShare TreeShare) (f : Vec F S1024x1024 .bf16) : sProp 𝕄 :=
  qM.view.loc (c : Thread nD τ) ↦[S]{q} f
/-- Elements `S` of the outgoing slots. -/
def sPts (c : Dev nD) (S : Finset S8x32x1024.Idx) (f : Vec F S8x32x1024 .bf16) : sProp 𝕄 :=
  sM.view.loc (c : Thread nD τ) ↦[S]{fullShare} f
/-- Elements `S` of the receive slots. -/
def cPts (c : Dev nD) (S : Finset S8x32x1024.Idx) (f : Vec F S8x32x1024 .bf16) : sProp 𝕄 :=
  cM.view.loc (c : Thread nD τ) ↦[S]{fullShare} f

instance qPts_storable (c S q f) : BI.Storable (upEmb : UEmb _ 𝕄) (qPts (F := F) c S q f) := by unfold qPts; infer_instance
instance sPts_storable (c S f) : BI.Storable (upEmb : UEmb _ 𝕄) (sPts (F := F) c S f) := by unfold sPts; infer_instance
instance cPts_storable (c S f) : BI.Storable (upEmb : UEmb _ 𝕄) (cPts (F := F) c S f) := by unfold cPts; infer_instance

/-- The two halves of a share a device lends. -/
abbrev qL : PosShare TreeShare := fullShare.left
abbrev qR : PosShare TreeShare := fullShare.right

/-- What the owner `c` of an end gets. -/
def endPay (c : Dev nD) : End → sProp 𝕄
  | .inl (.upS, k) => sPts c (slotS k) (outgoing p c)
  | .inl (.upR, k) => cPts c (slotS k) (outgoing p (devY c))
  | .inl (.aheadS, k) => qPts c (chk (rho c) k) qL (gathered p g c)
  | .inl (.behindS, k) => qPts c (chk (rho c) k) qR (gathered p g c)
  | .inl (.behindR, k) => qPts c (chk (rho c + 3) k) fullShare (gathered p g c)
  | .inl (.aheadR, k) => qPts c (chk (rho c + 1) k) fullShare (gathered p g c)
  | .inr .aheadS => qPts c (fst (rho c + 3)) qL (gathered p g c)
  | .inr .behindS => qPts c (snd (rho c + 1)) qL (gathered p g c)
  | .inr .behindR => qPts c (fst (rho c + 2)) fullShare (gathered p g c)
  | .inr .aheadR => qPts c (snd (rho c + 2)) fullShare (gathered p g c)

/-- What device `c` hands over with the unit it signals to its `y` neighbour (`0`), to the device ahead (`1`) and to the device
    behind (`2`): its receive slots; of its gathered buffer the quarter of the device ahead and the second half of the quarter
    opposite; the quarter of the device behind and the first half of the quarter opposite. -/
def barPay (c : Dev nD) : Fin 3 → sProp 𝕄
  | 0 => iprop(∃ f, cPts c Finset.univ f)
  | 1 => iprop((∃ f, qPts c (qtr (rho c + 1)) fullShare f) ∗ ∃ f, qPts c (snd (rho c + 2)) fullShare f)
  | 2 => iprop((∃ f, qPts c (qtr (rho c + 3)) fullShare f) ∗ ∃ f, qPts c (fst (rho c + 2)) fullShare f)

instance endPay_storable (c x) : BI.Storable (upEmb : UEmb _ 𝕄) (endPay p g c x) := by
  rcases x with ⟨f, k⟩ | f <;> cases f <;> unfold endPay <;> infer_instance
instance barPay_storable (c i) : BI.Storable (upEmb : UEmb _ 𝕄) (barPay (F := F) c i) := by
  fin_cases i <;> unfold barPay <;> infer_instance

/-- From the device that signals unit `i` to the owner of the barrier. -/
def barTo : Fin 3 → Dev nD ≃ Dev nD
  | 0 => eY
  | 1 => eN
  | 2 => eP
/-- From the device that starts a transfer to the owner of its end. -/
def endTo : End → Dev nD ≃ Dev nD
  | .inl (.upR, _) => eY
  | .inl (.behindR, _) | .inr .behindR => eN
  | .inl (.aheadR, _) | .inr .aheadR => eP
  | _ => Equiv.refl _

/-- The rounds of the cells: one round; the barrier three units, each with its payer's rows; an end its transfer. -/
def sched : Rounds.Schedule (GSem nD τ sig) (Fin 3) 𝕄 where
  duties c r := if r = 0 ∧ c.1.2 = .tc then
      (match celOf c.2 with | some none => Finset.univ | some (some _) => {0} | none => ∅) else ∅
  unitless _ := False
  amount c _ _ := match celOf c.2 with | some (some x) => size x | _ => 1
  payload c _ i := match celOf c.2 with
    | some none => barPay ((barTo i).symm c.1.1) i
    | some (some x) => endPay p g c.1.1 x
    | none => iprop(emp)
  amount_pos c _ _ _ := by
    split
    · exact size_pos _
    · exact Nat.one_pos

instance sched_storable (c : GSem nD τ sig) (r : ℕ) (i : Fin 3) : BI.Storable (upEmb : UEmb _ 𝕄) ((sched (F := F) p g).payload c r i) := by
  dsimp only [sched]
  split <;> infer_instance

theorem duties_bar (c : Dev nD) : (sched (F := F) p g).duties (cell c none) 0 = Finset.univ := by
  dsimp only [sched]; rw [if_pos ⟨rfl, rfl⟩, celOf_sem]
theorem duties_end (c : Dev nD) (x : End) : (sched (F := F) p g).duties (cellE c x) 0 = {0} := by
  dsimp only [sched]; rw [if_pos ⟨rfl, rfl⟩, celOf_sem]
theorem duties_later (c : GSem nD τ sig) : ∀ r, 1 ≤ r → (sched (F := F) p g).duties c r = ∅ :=
  fun r hr => by dsimp only [sched]; rw [if_neg fun h => by omega]
theorem amount_bar (c : Dev nD) (i : Fin 3) : (sched (F := F) p g).amount (cell c none) 0 i = 1 := by dsimp only [sched]; rw [celOf_sem]
theorem amount_end (c : Dev nD) (x : End) (i : Fin 3) : (sched (F := F) p g).amount (cellE c x) 0 i = size x := by
  dsimp only [sched]; rw [celOf_sem]
theorem payload_bar (c : Dev nD) (i : Fin 3) : (sched (F := F) p g).payload (cell c none) 0 i = barPay ((barTo i).symm c) i := by
  dsimp only [sched]; rw [celOf_sem]
theorem payload_end (c : Dev nD) (x : End) (i : Fin 3) : (sched (F := F) p g).payload (cellE c x) 0 i = endPay p g c x := by
  dsimp only [sched]; rw [celOf_sem]

theorem expect_bar (c : Dev nD) : (sched (F := F) p g).expect (cell c none) 0 = 3 := by
  unfold Schedule.expect Schedule.amountOf
  rw [duties_bar, Finset.sum_congr rfl fun i _ => amount_bar p g c i, Finset.sum_const]; rfl
theorem expect_end (c : Dev nD) (x : End) : (sched (F := F) p g).expect (cellE c x) 0 = size x := by
  unfold Schedule.expect Schedule.amountOf; rw [duties_end, Finset.sum_singleton, amount_end]

/-- All of a barrier's round; -/
theorem rest_bar (c : Dev nD) :
    bigSep ((sched (F := F) p g).duties (cell c none) 0 \ ∅) (fun i => (sched (F := F) p g).payload (cell c none) 0 i)
      = iprop(barPay (devY c) 0 ∗ barPay (devP c) 1 ∗ barPay (devN c) 2) := by
  rw [Finset.sdiff_empty, duties_bar, bigSep_univ_eq_bigSepL [0, 1, 2] (by decide) (by decide), bigSepL_cons_cons, bigSepL_cons_cons,
    bigSepL_singleton, payload_bar, payload_bar, payload_bar]
  rfl
/-- all of an end's. -/
theorem rest_end (c : Dev nD) (x : End) :
    bigSep ((sched (F := F) p g).duties (cellE c x) 0 \ ∅) (fun i => (sched (F := F) p g).payload (cellE c x) 0 i) = endPay p g c x := by
  rw [Finset.sdiff_empty, duties_end, bigSep_singleton, payload_end]

end Payload

end Cert.RingRms

end
-- ==== Proof.Steps.lean ====
/-
# One wait, one transfer, one loop

The rules of the logic at this kernel's cells: waiting for a transfer's end closes its cell and hands over its payload;
starting a transfer spends the two tokens of its ends. Then the rule for a loop over chunks.
-/
module

public import proofs.«01_k».proof.Proof.Cells
public import Idealize.ShloMosaic.Lib.Pipeline.BigSepL

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Eff" => TpuEff nD τ sig (Elt F) Λ₀ Proc.tc

abbrev 𝒱₀ : Variants := Variants.none

/-! ## Levels -/

/-- The level of a cell: barrier, arrivals from the `y` neighbour, arrivals around the ring, passed-on arrivals. A device
    waits on a cell only while all it still owes lies above. -/
def level : Cel → ℕ
  | none => 1
  | some (.inl (.upR, _)) => 2
  | some (.inl (.behindR, _)) | some (.inl (.aheadR, _)) => 3
  | some (.inr .behindR) | some (.inr .aheadR) => 4
  | _ => 0

def L (c : GSem nD τ sig) : Finset Unit := if c.1.2 = .tc then {()} else ∅
def lv (c : GSem nD τ sig) (_ : Unit) : ℕ := match celOf c.2 with | some x => level x | none => 0

theorem L_of_ne (c : GSem nD τ sig) (h : c.1.2 ≠ .tc) : L c = ∅ := if_neg h
theorem L_tc (c : Dev nD) (s : SemLoc sig) : L ((c : Thread nD τ), s) = {()} := if_pos rfl
theorem lv_cell (c : Dev nD) (x : Cel) (u : Unit) : lv (cell c x) u = level x := by unfold lv; rw [celOf_sem]

/-- What is owed lies on device cells above level `n`. -/
def Above (n : ℕ) (O : CellTallies nD τ sig Unit) : Prop := ∀ c u, 0 < O c u → c.1.2 = .tc ∧ n < lv c u

theorem above_zero (n : ℕ) : Above n 0 := fun c u h => absurd h (Nat.lt_irrefl 0)
theorem above_add {n : ℕ} {O O' : CellTallies nD τ sig Unit} (h : Above n O) (h' : Above n O') : Above n (O + O') := fun c u hp => by
  rw [Pi.add_apply, Finsupp.add_apply] at hp
  rcases Nat.add_pos_iff_pos_or_pos.mp hp with h₁ | h₁
  · exact h c u h₁
  · exact h' c u h₁
theorem above_cell {n : ℕ} (c : Dev nD) (x : Cel) (k : ℕ) (h : n < level x) : Above n (tallyAt (cell c x) () k) := fun c' u hp => by
  rw [tallyAt_apply] at hp
  by_cases hc : c' = cell c x ∧ u = ()
  · rw [hc.1]; exact ⟨rfl, by rw [lv_cell]; exact h⟩
  · rw [if_neg hc] at hp; exact absurd hp (Nat.lt_irrefl 0)

omit [FloatOps F] in
/-- A device may wait on a semaphore of level at most `n` while what it owes lies above `n`. -/
theorem mayWait {n : ℕ} (c : Dev nD) (s : SemLoc sig) {O : CellTallies nD τ sig Unit} (hs : lv ((c : Thread nD τ), s) () ≤ n) (hO : Above n O) :
    (levAts L lv : sProp 𝕄) ⊢ MayWait (c : Thread nD τ) s () O :=
  MayOwe.of_cut (L := L) (lev := lv) n (fun q hq => by rw [Finset.mem_singleton.mp hq, L_tc]; exact Finset.mem_singleton_self _)
    (fun c' u h => by unfold L; rw [if_pos (hO c' u h).1]; exact Finset.mem_singleton_self _)
    (fun q hq => by rw [Finset.mem_singleton.mp hq]; exact hs)
    (fun c' u h => (hO c' u h).2)

/-! ## The rules -/

/-- Running `e` on device `c`. -/
abbrev run (c : Dev nD) {α : Type} (e : Prog Eff α) (Q : α → sProp 𝕄) : sProp 𝕄 :=
  wp frame (wpE (defs₀ (F := F)) 𝒱₀ (c : Thread nD τ) none) Set.univ e Q

/-- What device `c` owes, whatever it has waited for. -/
def ow (c : Dev nD) (O : CellTallies nD τ sig Unit) : sProp 𝕄 := iprop(∃ W, owes (c : Thread nD τ) O W)

section Rules
variable (p : Dev nD → Vec F S2048x1024 .f32) (g : Dev nD → Vec F S1x1024 .f32) (K : Dev nD × Cel → ℕ)

/-- What all devices know: the cells' invariants, that every cell has reached its round, the levels. -/
def ctx : sProp 𝕄 :=
  iprop((bigSep Finset.univ fun cx : Dev nD × Cel => cellInv ER (sched p g) (K cx) (cell cx.1 cx.2))
    ∗ (bigSep Finset.univ fun cx : Dev nD × Cel => reached ER (cell cx.1 cx.2) 0) ∗ levAts L lv)

instance ctx_persistent : BI.Persistent (ctx p g K) := by unfold ctx; infer_instance

theorem ctx_inv (c : Dev nD) (x : Cel) : ctx p g K ⊢ cellInv ER (sched p g) (K (c, x)) (cell c x) := by
  unfold ctx
  have h : (bigSep Finset.univ fun cx : Dev nD × Cel => (cellInv ER (sched p g) (K cx) (cell cx.1 cx.2) : sProp 𝕄)) ⊢ cellInv ER (sched p g) (K (c, x)) (cell c x) :=
    bigSep_elim (Finset.mem_univ (c, x))
  iintro ⟨H, -, -⟩
  iapply h; iexact H
theorem ctx_reached (c : Dev nD) (x : Cel) : ctx p g K ⊢ reached ER (cell c x) 0 := by
  unfold ctx
  have h : (bigSep Finset.univ fun cx : Dev nD × Cel => (reached ER (cell cx.1 cx.2) 0 : sProp 𝕄)) ⊢ reached ER (cell c x) 0 :=
    bigSep_elim (Finset.mem_univ (c, x))
  iintro ⟨-, H, -⟩
  iapply h; iexact H
theorem ctx_lev : ctx p g K ⊢ levAts L lv := by
  unfold ctx
  iintro ⟨-, -, H⟩
  iexact H

/-- The wait for the end `x` of a transfer: its payload, and its counter back at zero. -/
theorem wait_end (c : Dev nD) (x : End) {O : CellTallies nD τ sig Unit} (hO : Above (level (some x)) O)
    {sp sp' : Space} {s s' : Shape} {e e' : EltTy} {src : Memref sig .tc sp' s' e'} {dst : Memref sig .tc sp s e}
    {h₁ : src.view.WordExact} {h₂ : dst.view.WordExact} (hn : dst.view.dmaCredit = size x) :
    iprop(ctx p g K ∗ cred (tallyAt (cellE c x) () (size x)) ∗ ow c O ∗ atPos ER (cellE c x) 0 ∅ 0)
      ⊢ run c (Prog.lift (.waitDma2 (endSem x) src dst h₁ h₂)) fun _ => iprop(endPay p g c x ∗ ow c O ∗ semVal (cellE c x) 0) := by
  unfold ow run
  iintro ⟨#Hx, Hc, ⟨%W, Ho⟩, Ha⟩
  simp only [Prog.lift]
  iapply (Rounds.wp_wait_rest_token 𝒱₀ ER (sched p g) (c : Thread nD τ) none (κ := K (c, some x))
      (wpE_waitDma2_eq 𝒱₀ (c : Thread nD τ) none Set.univ) (Set.mem_univ _) () (O := O) (W := W) (R := 0) (m := 0) (T := ∅)
      (by rw [Nat.zero_add]; exact hn.trans (expect_end p g c x).symm)) $$ [Hc Ho Ha]
  · isplitr; · iapply (ctx_inv p g K c (some x)); iexact Hx
    isplitl [Hc]; · rw [hn]; iexact Hc
    isplitl [Ho]; · iexact Ho
    isplitr
    · iapply (mayWait (n := level (some x)) c (celSem (some x)) (le_of_eq (lv_cell c (some x) ())) hO)
      iapply (ctx_lev p g K); iexact Hx
    iexact Ha
  iintro ⟨Ho, Ha, -, Hp⟩
  imod (Rounds.cell_close ER (sched p g) (Set.mem_univ (K (c, some x))) (fun h => h) (R := 0 + 1) (duties_later p g (cellE c x))) $$ [Ha] with Hz
  · isplitr; · iapply (ctx_inv p g K c (some x)); iexact Hx
    iexact Ha
  rw [wp_ret]; imodintro
  isplitl [Hp]; · iapply (Entails.of_eq (rest_end p g c x)); iexact Hp
  isplitl [Ho]; · iexists _; iexact Ho
  iexact Hz

/-- Starting a transfer from device `c` to device `n`, with ends `xs` and `xr`. -/
theorem start_transfer (c n : Dev nD) (xs xr : End) (hsz : size xs = size xr) (O : CellTallies nD τ sig Unit)
    {sp sp' : Space} {s : Shape} {e : EltTy} {src : Memref sig .tc sp s e} {dst : Memref sig .tc sp' s e}
    {hsc : dst.view.ref.isScScratch = false} {h₁ : src.view.WordExact} {h₂ : dst.view.WordExact}
    {h₃ : DmaTarget.Typed sp (.dma (endSem xr)) (.remote (Dev.tc n : Thread nD τ) dst (.dma (endSem xs)) hsc)}
    (hn : dst.view.amount (.dma (endSem xr)) = size xr) {q : PosShare TreeShare} {fs : Buf (Elt F) (src.view.loc (c : Thread nD τ))}
    {fd : Buf (Elt F) (dst.view.loc (n : Thread nD τ))}
    (hs : (src.view.loc (c : Thread nD τ) ↦[src.view.set]{q} fs : sProp 𝕄) ⊢ endPay p g c xs)
    (hd : (dst.view.loc (n : Thread nD τ) ↦[dst.view.set]{fullShare} (dst.view.write (Elt F) fd (src.view.read (Elt F) fs) Finset.univ) : sProp 𝕄)
      ⊢ endPay p g n xr) :
    iprop(ctx p g K ∗ (src.view.loc (c : Thread nD τ) ↦[src.view.set]{q} fs) ∗ (dst.view.loc (n : Thread nD τ) ↦[dst.view.set]{fullShare} fd)
        ∗ ow c (O + tallyAt (cellE n xr) () (size xr)) ∗ dutyTok ER (cellE c xs) 0 0 ∗ dutyTok ER (cellE n xr) 0 0)
      ⊢ run c (Prog.lift (.enqueueDma src (.remote (Dev.tc n : Thread nD τ) dst (.dma (endSem xs)) hsc) (.dma (endSem xr)) h₁ h₂ h₃))
          fun _ => iprop(cred (tallyAt (cellE c xs) () (size xs)) ∗ ow c O) := by
  unfold ow run
  iintro ⟨#Hx, Hs, Hd, ⟨%W, Ho⟩, Ht, Ht'⟩
  simp only [Prog.lift]
  iapply (Rounds.wp_send_pointsTo 𝒱₀ ER (sched p g) (c : Thread nD τ) none (κ₁ := K (c, some xs)) (κ₂ := K (n, some xr))
    (r₁ := 0) (r₂ := 0) (d₁ := 0) (d₂ := 0) (fd := fd) (fs := fs) (q := q)
    (by show _ ∈ (sched p g).duties (cellE c xs) 0; rw [duties_end]; exact Finset.mem_singleton_self _)
    (by show _ ∈ (sched p g).duties (cellE n xr) 0; rw [duties_end]; exact Finset.mem_singleton_self _)
    () () (size xr) hn ((amount_end p g c xs 0).trans hsz) (amount_end p g n xr 0) O rfl (W := W)
    (hs.trans (Entails.of_eq (payload_end p g c xs 0).symm)) (hd.trans (Entails.of_eq (payload_end p g n xr 0).symm))) $$ [Hs Hd Ho Ht Ht']
  · isplitr; · iapply (ctx_inv p g K c (some xs)); iexact Hx
    isplitr; · iapply (ctx_inv p g K n (some xr)); iexact Hx
    isplitl [Hs]; · iexact Hs
    isplitl [Hd]; · iexact Hd
    isplitl [Ho]; · iexact Ho
    isplitl [Ht]; · iexact Ht
    isplitr; · iapply (ctx_reached p g K c (some xs)); iexact Hx
    isplitl [Ht']; · iexact Ht'
    iapply (ctx_reached p g K n (some xr)); iexact Hx
  iintro ⟨Hc, Ho⟩
  rw [wp_ret]; imodintro
  isplitl [Hc]; · rw [hsz]; iexact Hc
  iexists W; iexact Ho

end Rules

/-! ## Sequencing -/

/-- A statement run from `P` to `Q`, then the rest. -/
theorem run_seq {c : Dev nD} {α β : Type} {e : Prog Eff α} {k : α → Prog Eff β} {P : sProp 𝕄} {Q : α → sProp 𝕄} {R : β → sProp 𝕄}
    (h : P ⊢ run c e Q) : P ⊢ iprop((∀ a, Q a -∗ run c (k a) R) -∗ run c (e >>= k) R) := by
  unfold run
  rw [wp_bind]
  exact h.trans (wp_wand _ _ _)

/-- The last statement. -/
theorem run_last {c : Dev nD} {α : Type} {e : Prog Eff α} {P : sProp 𝕄} {Q R : α → sProp 𝕄}
    (h : P ⊢ run c e Q) : P ⊢ iprop((∀ a, Q a -∗ R a) -∗ run c e R) := h.trans (wp_wand _ _ _)

/-- A loop: each pass turns `A k` into `B k` and moves the loop's state `S` on. -/
theorem run_each {c : Dev nD} {f : Fin 8 → Prog Eff PUnit} {C : sProp 𝕄} [BI.Persistent C] {A B : Fin 8 → sProp 𝕄} {S : List (Fin 8) → sProp 𝕄}
    (h : ∀ k ks, iprop(C ∗ A k ∗ S (k :: ks)) ⊢ run c (f k) fun _ => iprop(B k ∗ S ks)) (l : List (Fin 8)) :
    iprop(C ∗ bigSepL l A ∗ S l) ⊢ run c (each l f) fun _ => iprop(bigSepL l B ∗ S []) := by
  induction l with
  | nil =>
    unfold run
    rw [bigSepL_nil, bigSepL_nil, each, wp_ret]
    iintro ⟨-, H⟩
    imodintro; iexact H
  | cons k ks ih =>
    rw [bigSepL_cons', bigSepL_cons', each]
    iintro ⟨#HC, ⟨HA, HAs⟩, HS⟩
    iapply (run_seq (h k ks)) $$ [HA HS]
    · isplitr; · iexact HC
      isplitl [HA] <;> iassumption
    iintro %_ ⟨HB, HS⟩
    unfold run
    iapply (wp_wand _ _ _) $$ [HAs HS]
    · iapply ih
      isplitr; · iexact HC
      isplitl [HAs] <;> iassumption
    iintro %_ ⟨HBs, HS⟩
    isplitl [HB HBs]
    · isplitl [HB] <;> iassumption
    iexact HS

end Cert.RingRms

end
-- ==== Proof.Handshake.lean ====
/-
# The handshake

The device signals its three neighbours, handing each the rows that neighbour will write, and waits for their three signals.
-/
module

public import proofs.«01_k».proof.Proof.Steps

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Eff" => TpuEff nD τ sig (Elt F) Λ₀ Proc.tc

variable (p : Dev nD → Vec F S2048x1024 .f32) (g : Dev nD → Vec F S1x1024 .f32) (K : Dev nD × Cel → ℕ)

/-- One signal: unit `i` of the barrier of device `n`, with the rows handed over. -/
theorem signal_bar (c n : Dev nD) (i : Fin 3) (hn : n = barTo i c) (O : CellTallies nD τ sig Unit) :
    iprop(ctx p g K ∗ ow c (O + tallyAt (cell n none) () 1) ∗ dutyTok ER (cell n none) 0 i ∗ barPay c i)
      ⊢ run c (semSignalWord n barS 1#32) fun _ => (ow c O : sProp 𝕄) := by
  unfold ow run
  iintro ⟨#Hx, ⟨%W, Ho⟩, Ht, Hp⟩
  simp only [semSignalWord, Prog.lift]
  iapply (Rounds.wp_signal 𝒱₀ ER (sched p g) (c : Thread nD τ) none (dst := (n : Thread nD τ)) (κ := K (n, none)) (r := 0)
      (d := i) (W := W) (by show _ ∈ (sched p g).duties (cell n none) 0; rw [duties_bar]; exact Finset.mem_univ _)
      ((amount_bar p g n i).trans (by decide)) () O rfl) $$ [Ho Ht Hp]
  · isplitr; · iapply (ctx_inv p g K n none); iexact Hx
    isplitl [Ho]; · iexact Ho
    isplitl [Ht]; · iexact Ht
    isplitl [Hp]
    · have h : (barPay c i : sProp 𝕄) ⊢ (sched p g).payload ((n : Thread nD τ), .reg barS) 0 i :=
        Entails.of_eq (by rw [show ((n : Thread nD τ), SemLoc.reg barS) = cell n none from rfl, payload_bar, hn, Equiv.symm_apply_apply])
      iapply h; iexact Hp
    iapply (ctx_reached p g K n none); iexact Hx
  iintro Ho
  rw [wp_ret]; imodintro
  iexists W; iexact Ho

/-- The wait for the three signals: the rows the neighbours hand over, and the counter back at zero. -/
theorem wait_bar (c : Dev nD) {O : CellTallies nD τ sig Unit} (hO : Above 1 O) :
    iprop(ctx p g K ∗ cred (tallyAt (cell c none) () 3) ∗ ow c O ∗ atPos ER (cell c none) 0 ∅ 0)
      ⊢ run c (semWaitWord barS 3#32) fun _ =>
          (iprop((barPay (devY c) 0 ∗ barPay (devP c) 1 ∗ barPay (devN c) 2) ∗ ow c O ∗ semVal (cell c none) 0) : sProp 𝕄) := by
  unfold ow run
  iintro ⟨#Hx, Hc, ⟨%W, Ho⟩, Ha⟩
  simp only [semWaitWord, Prog.lift]
  iapply (Rounds.wp_wait_rest_token 𝒱₀ ER (sched p g) (c : Thread nD τ) none (κ := K (c, none))
      (wpE_semWait_eq 𝒱₀ (c : Thread nD τ) none Set.univ) (Set.mem_univ _) () (O := O) (W := W) (R := 0) (m := 0) (T := ∅)
      (by rw [Nat.zero_add]; exact Eq.trans (by decide) (expect_bar p g c).symm)) $$ [Hc Ho Ha]
  · isplitr; · iapply (ctx_inv p g K c none); iexact Hx
    isplitl [Hc]; · iexact Hc
    isplitl [Ho]; · iexact Ho
    isplitr
    · iapply (mayWait (n := 1) c (celSem none) (le_of_eq (lv_cell c none ())) hO)
      iapply (ctx_lev p g K); iexact Hx
    iexact Ha
  iintro ⟨Ho, Ha, -, Hp⟩
  imod (Rounds.cell_close ER (sched p g) (Set.mem_univ (K (c, none))) (fun h => h) (R := 0 + 1) (duties_later p g (cell c none))) $$ [Ha] with Hz
  · isplitr; · iapply (ctx_inv p g K c none); iexact Hx
    iexact Ha
  rw [wp_ret]; imodintro
  isplitl [Hp]; · iapply (Entails.of_eq (rest_bar p g c)); iexact Hp
  isplitl [Ho]; · iexists _; iexact Ho
  iexact Hz

/-- The three units a device owes its neighbours. -/
def barOwed (c : Dev nD) (O : CellTallies nD τ sig Unit) : CellTallies nD τ sig Unit :=
  O + tallyAt (cell (devP c) none) () 1 + tallyAt (cell (devN c) none) () 1 + tallyAt (cell (devY c) none) () 1

/-- The whole handshake. -/
theorem run_handshake (c : Dev nD) {O : CellTallies nD τ sig Unit} (hO : Above 1 O) :
    iprop(ctx p g K ∗ ow c (barOwed c O) ∗ (cred (tallyAt (cell c none) () 3) ∗ atPos ER (cell c none) 0 ∅ 0)
        ∗ (dutyTok ER (cell (devY c) none) 0 0 ∗ dutyTok ER (cell (devN c) none) 0 1 ∗ dutyTok ER (cell (devP c) none) 0 2)
        ∗ barPay c 0 ∗ barPay c 1 ∗ barPay c 2)
      ⊢ run c (handshake c) fun _ =>
          (iprop((barPay (devY c) 0 ∗ barPay (devP c) 1 ∗ barPay (devN c) 2) ∗ ow c O ∗ semVal (cell c none) 0) : sProp 𝕄) := by
  unfold barOwed handshake
  iintro ⟨#Hx, Ho, ⟨Hc, Ha⟩, ⟨Ht0, Ht1, Ht2⟩, H0, H1, H2⟩
  iapply (run_seq (signal_bar p g K c (devY c) 0 rfl _)) $$ [Ho Ht0 H0]
  · isplitr; · iexact Hx
    isplitl [Ho]; · iexact Ho
    isplitl [Ht0] <;> iassumption
  iintro %_ Ho
  iapply (run_seq (signal_bar p g K c (devN c) 1 rfl _)) $$ [Ho Ht1 H1]
  · isplitr; · iexact Hx
    isplitl [Ho]; · iexact Ho
    isplitl [Ht1] <;> iassumption
  iintro %_ Ho
  iapply (run_seq (signal_bar p g K c (devP c) 2 rfl _)) $$ [Ho Ht2 H2]
  · isplitr; · iexact Hx
    isplitl [Ho]; · iexact Ho
    isplitl [Ht2] <;> iassumption
  iintro %_ Ho
  iapply (wait_bar p g K c hO)
  isplitr; · iexact Hx
  isplitl [Hc]; · iexact Hc
  isplitl [Ho] <;> iassumption

end Cert.RingRms

end
-- ==== Proof.Chunks.lean ====
/-
# One chunk

What the body does for one chunk: send it to the `y` neighbour; reduce, scale and store the neighbour's counterpart and send
it both ways around the ring; wait for the transfers.
-/
module

public import proofs.«01_k».proof.Proof.Steps

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Eff" => TpuEff nD τ sig (Elt F) Λ₀ Proc.tc

/-! ## Rows held -/

/-- The device's half of `partial`; -/
def pIn (c : Dev nD) (v : Vec F S2048x1024 .f32) : sProp 𝕄 := pM.view.loc (c : Thread nD τ) ↦{fullShare} v
/-- `gamma`; -/
def gIn (c : Dev nD) (v : Vec F S1x1024 .f32) : sProp 𝕄 := gM.view.loc (c : Thread nD τ) ↦{fullShare} v
/-- rows `S` of the result. -/
def oPts (c : Dev nD) (S : Finset S1024x1024.Idx) (f : Vec F S1024x1024 .f32) : sProp 𝕄 := oM.view.loc (c : Thread nD τ) ↦[S]{fullShare} f

/-! ## Loads and stores -/

omit [FloatOps F] in
/-- Elements written through a view are the elements of any contents that read the same through it. -/
theorem landed {c : Dev nD} {sp : Space} {s : Shape} {e : EltTy} (v : View sig .tc sp s e) {q : PosShare TreeShare}
    {f X : Buf (Elt F) (v.loc (c : Thread nD τ))} {w : s.Idx → Elt F e} (h : v.read (Elt F) X = w) :
    (v.loc (c : Thread nD τ) ↦[v.set]{q} v.write (Elt F) f w Finset.univ : sProp 𝕄) = (v.loc (c : Thread nD τ) ↦[v.set]{q} X) := by
  subst h
  refine pointsTo_congr fun i hi => ?_
  rw [View.write_read_eq_piecewise]
  exact Finset.piecewise_eq_of_mem _ _ _ hi

/-- A load returns what the view reads. -/
theorem run_load {c : Dev nD} {s : Shape} {e : EltTy} {cs : CoreSpace} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    (hS : (m.access r).set ⊆ S) :
    ((m.access r).loc (c : Thread nD τ) ↦[S]{q} f : sProp 𝕄)
      ⊢ run c (Prog.lift (.load m r.toLoadRect hl)) fun v =>
          iprop(⌜v = (m.access r).read (Elt F) f⌝ ∗ ((m.access r).loc (c : Thread nD τ) ↦[S]{q} f)) := by
  unfold run
  iintro H
  simp only [Prog.lift]
  iapply (wp_load_rect 𝒱₀ (c : Thread nD τ) none Set.univ (m := m) hS) $$ [H]
  · iexact H
  iintro H
  rw [wp_ret]; imodintro
  isplitr; · ipureintro; rfl
  iexact H

/-- A store of `w` leaves any contents `X` that read as `w`. -/
theorem run_store {c : Dev nD} {s : Shape} {e : EltTy} {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f X : Buf (Elt F) ((m.access r).loc (c : Thread nD τ))}
    (hS : (m.access r).set = S) (hX : (m.access r).read (Elt F) X = w) :
    ((m.access r).loc (c : Thread nD τ) ↦[S]{fullShare} f : sProp 𝕄)
      ⊢ run c (Prog.lift (.store m r w Finset.univ hx hm)) fun _ => ((m.access r).loc (c : Thread nD τ) ↦[S]{fullShare} X) := by
  subst hS
  unfold run
  iintro H
  simp only [Prog.lift]
  iapply (wp_store 𝒱₀ (c : Thread nD τ) none Set.univ (m := m) (r := r) (Mk := Finset.univ) (S := (m.access r).set) (f := f) (subset_of_eq rfl)) $$ [H]
  · iexact H
  iintro H
  rw [wp_ret]; imodintro
  iapply (Entails.of_eq (landed (m.access r) hX)); iexact H

/-! ## The elements of the views -/

theorem sSlot_set (k : Fin 8) : (slotM sM k).view.set = slotS k := (View.set_reshape _ _).trans (View.set_slice_whole _ _)
theorem cSlot_set (k : Fin 8) : (slotM cM k).view.set = slotS k := (View.set_reshape _ _).trans (View.set_slice_whole _ _)
theorem sAcc_set (k : Fin 8) : (sM.access (slot k)).set = slotS k := View.set_slice_whole _ _
theorem cAcc_set (k : Fin 8) : (cM.access (slot k)).set = slotS k := View.set_slice_whole _ _
theorem qAcc_set (r : Rect S1024x1024) : (qM.access r).set = r.set := View.set_slice_whole _ _
theorem oAcc_set (r : Rect S1024x1024) : (oM.access r).set = r.set := View.set_slice_whole _ _
theorem qOwn_set (d : Dev nD) (k : Fin 8) : (qOwn d k).view.set = chk (rho d) k := (View.set_slice_whole _ _).trans (rOwn'_set d k)
theorem qFst_set (d : Dev nD) (r : Fin 2) : (qFst d r).view.set = fst (rho d + (if r = 0 then 2 else 3)) := (View.set_slice_whole _ _).trans (rFst_set d r)
theorem qSnd_set (d : Dev nD) (r : Fin 2) : (qSnd d r).view.set = snd (rho d + (if r = 0 then 1 else 2)) := (View.set_slice_whole _ _).trans (rSnd_set d r)

/-! ## What is owed -/

/-- The sum of `f` over the chunks still to come. -/
def still (f : Fin 8 → CellTallies nD τ sig Unit) : List (Fin 8) → CellTallies nD τ sig Unit
  | [] => 0
  | k :: ks => still f ks + f k

theorem still_cons (O : CellTallies nD τ sig Unit) (f : Fin 8 → CellTallies nD τ sig Unit) (k : Fin 8) (ks : List (Fin 8)) :
    O + still f (k :: ks) = O + still f ks + f k := (add_assoc _ _ _).symm
theorem above_still {n : ℕ} {f : Fin 8 → CellTallies nD τ sig Unit} (h : ∀ k, Above n (f k)) : ∀ ks, Above n (still f ks)
  | [] => above_zero n
  | k :: ks => above_add (above_still h ks) (h k)

/-- The arrival a device owes its `y` neighbour for chunk `k`; -/
def upOwed (c : Dev nD) (k : Fin 8) : CellTallies nD τ sig Unit := tallyAt (cellE (devY c) (.inl (.upR, k))) () (size (.inl (.upR, k)))
/-- the two arrivals it owes on the ring. -/
def ringOwed (c : Dev nD) (k : Fin 8) : CellTallies nD τ sig Unit :=
  tallyAt (cellE (devP c) (.inl (.aheadR, k))) () (size (.inl (.aheadR, k)))
    + tallyAt (cellE (devN c) (.inl (.behindR, k))) () (size (.inl (.behindR, k)))

section Chunk
variable (p : Dev nD → Vec F S2048x1024 .f32) (g : Dev nD → Vec F S1x1024 .f32) (K : Dev nD × Cel → ℕ)

/-- A transfer of the elements `S` of device `c`, holding `fs`, to the elements `S'` of device `n`, which then hold `X`. -/
theorem run_transfer (c n : Dev nD) (xs xr : End) (hsz : size xs = size xr) (O : CellTallies nD τ sig Unit)
    {sp sp' : Space} {s : Shape} {e : EltTy} {src : Memref sig .tc sp s e} {dst : Memref sig .tc sp' s e}
    {hsc : dst.view.ref.isScScratch = false} {h₁ : src.view.WordExact} {h₂ : dst.view.WordExact}
    {h₃ : DmaTarget.Typed sp (.dma (endSem xr)) (.remote (Dev.tc n : Thread nD τ) dst (.dma (endSem xs)) hsc)}
    {S : Finset (Idx (src.view.loc (c : Thread nD τ)))} {S' : Finset (Idx (dst.view.loc (n : Thread nD τ)))}
    {q : PosShare TreeShare} {fs : Buf (Elt F) (src.view.loc (c : Thread nD τ))} {fd X : Buf (Elt F) (dst.view.loc (n : Thread nD τ))}
    (hn : dst.view.amount (.dma (endSem xr)) = size xr) (hS : src.view.set = S) (hS' : dst.view.set = S')
    (hX : dst.view.read (Elt F) X = src.view.read (Elt F) fs)
    (hs : (src.view.loc (c : Thread nD τ) ↦[S]{q} fs : sProp 𝕄) ⊢ endPay p g c xs)
    (hd : (dst.view.loc (n : Thread nD τ) ↦[S']{fullShare} X : sProp 𝕄) ⊢ endPay p g n xr) :
    iprop(ctx p g K ∗ (src.view.loc (c : Thread nD τ) ↦[S]{q} fs) ∗ (dst.view.loc (n : Thread nD τ) ↦[S']{fullShare} fd)
        ∗ ow c (O + tallyAt (cellE n xr) () (size xr)) ∗ dutyTok ER (cellE c xs) 0 0 ∗ dutyTok ER (cellE n xr) 0 0)
      ⊢ run c (Prog.lift (.enqueueDma src (.remote (Dev.tc n : Thread nD τ) dst (.dma (endSem xs)) hsc) (.dma (endSem xr)) h₁ h₂ h₃))
          fun _ => iprop(cred (tallyAt (cellE c xs) () (size xs)) ∗ ow c O) := by
  subst hS; subst hS'
  exact start_transfer p g K c n xs xr hsz O hn hs ((Entails.of_eq (landed dst.view hX)).trans hd)

/-! ## To the `y` neighbour -/

/-- What sending chunk `k` up takes: the two slots, the tokens of the two ends. -/
def upPre (c : Dev nD) (fs fc : Vec F S8x32x1024 .bf16) (k : Fin 8) : sProp 𝕄 :=
  iprop(sPts c (slotS k) fs ∗ cPts (devY c) (slotS k) fc
    ∗ dutyTok ER (cellE c (.inl (.upS, k))) 0 0 ∗ dutyTok ER (cellE (devY c) (.inl (.upR, k))) 0 0)

theorem run_sendUp (c : Dev nD) (O : CellTallies nD τ sig Unit) (fs fc : Vec F S8x32x1024 .bf16) (k : Fin 8) (ks : List (Fin 8)) :
    iprop(ctx p g K ∗ upPre c fs fc k ∗ ow c (O + still (upOwed c) (k :: ks)) ∗ pIn c (p c))
      ⊢ run c (sendUp c k) fun _ =>
          iprop(cred (tallyAt (cellE c (.inl (.upS, k))) () (size (.inl (.upS, k)))) ∗ ow c (O + still (upOwed c) ks) ∗ pIn c (p c)) := by
  unfold upPre sendUp pIn sPts cPts
  rw [still_cons]
  iintro ⟨#Hx, ⟨Hs, Hd, Ht, Ht'⟩, Ho, Hp⟩
  iapply (run_seq (run_load (m := pM) (r := rNbr c k) (S := Finset.univ) (Finset.subset_univ _))) $$ [Hp]
  · iexact Hp
  iintro %v ⟨%hv, Hp⟩
  iapply (run_seq (run_load (m := sM) (r := slot k) (S := slotS k) (subset_of_eq (sAcc_set k)))) $$ [Hs]
  · iexact Hs
  iintro %_ ⟨-, Hs⟩
  subst hv
  iapply (run_seq (run_store (m := sM) (r := slot k) (S := slotS k) (X := outgoing p c) (sAcc_set k) (read_outgoing p c k))) $$ [Hs]
  · iexact Hs
  iintro %_ Hs
  iapply (run_last (run_transfer p g K c (devY c) (.inl (.upS, k)) (.inl (.upR, k)) rfl (O + still (upOwed c) ks)
    (S := slotS k) (S' := slotS k) (X := outgoing p c) (q := fullShare) (fs := outgoing p c) (fd := fc) (src := slotM sM k) (dst := slotM cM k)
    rfl (sSlot_set k) (cSlot_set k) rfl (by unfold endPay sPts; exact .rfl) (by unfold endPay cPts; rw [devY_devY]))) $$ [Hs Hd Ho Ht Ht']
  · isplitr; · iexact Hx
    isplitl [Hs]; · iexact Hs
    isplitl [Hd]; · iexact Hd
    isplitl [Ho]; · iexact Ho
    isplitl [Ht] <;> iassumption
  iintro %_ ⟨Hc, Ho⟩
  isplitl [Hc]; · iexact Hc
  isplitl [Ho] <;> iassumption

/-! ## Around the ring -/

theorem rho_around (a : Fin 4) : a + 1 + 3 = a ∧ a + 3 + 1 = a ∧ a + 1 + 2 = a + 3 ∧ a + 3 + 2 = a + 1 := by revert a; decide

/-- What the device ahead gets of chunk `k`; -/
theorem pay_behind (c : Dev nD) (k : Fin 8) :
    endPay p g (devN c) (.inl (.behindR, k)) = qPts (devN c) (chk (rho c) k) fullShare (gathered p g c) := by
  unfold endPay; rw [rho_devN, (rho_around _).1, gathered_devN]
/-- the device behind. -/
theorem pay_ahead (c : Dev nD) (k : Fin 8) :
    endPay p g (devP c) (.inl (.aheadR, k)) = qPts (devP c) (chk (rho c) k) fullShare (gathered p g c) := by
  unfold endPay; rw [rho_devP, (rho_around _).2.1, gathered_devP]
/-- What the device ahead gets of the quarter behind; -/
theorem pay_on_behind (c : Dev nD) : endPay p g (devN c) (.inr .behindR) = qPts (devN c) (fst (rho c + 3)) fullShare (gathered p g c) := by
  unfold endPay; rw [rho_devN, (rho_around _).2.2.1, gathered_devN]
/-- the device behind of the quarter ahead. -/
theorem pay_on_ahead (c : Dev nD) : endPay p g (devP c) (.inr .aheadR) = qPts (devP c) (snd (rho c + 1)) fullShare (gathered p g c) := by
  unfold endPay; rw [rho_devP, (rho_around _).2.2.2, gathered_devP]

/-- Gathered rows are lent in two halves of the share. -/
theorem qPts_halves (c : Dev nD) (S : Finset S1024x1024.Idx) (f : Vec F S1024x1024 .bf16) :
    (qPts c S fullShare f : sProp 𝕄) ⊣⊢ iprop(qPts c S qL f ∗ qPts c S qR f) := by
  unfold qPts
  exact pointsTo_share (PosShare.mem_left_op_right fullShare)

/-- What finishing chunk `k` takes: its arrival, the rows of the result and of the gathered buffer, the rows of the two ring
    neighbours, the tokens of the four ends. -/
def finishPre (c : Dev nD) (fo : Vec F S1024x1024 .f32) (fq fn fp : Vec F S1024x1024 .bf16) (k : Fin 8) : sProp 𝕄 :=
  iprop((cred (tallyAt (cellE c (.inl (.upR, k))) () (size (.inl (.upR, k)))) ∗ atPos ER (cellE c (.inl (.upR, k))) 0 ∅ 0)
    ∗ (oPts c (chk (rho c) k) fo ∗ qPts c (chk (rho c) k) fullShare fq)
    ∗ (qPts (devN c) (chk (rho c) k) fullShare fn ∗ qPts (devP c) (chk (rho c) k) fullShare fp)
    ∗ (dutyTok ER (cellE c (.inl (.aheadS, k))) 0 0 ∗ dutyTok ER (cellE (devN c) (.inl (.behindR, k))) 0 0)
    ∗ (dutyTok ER (cellE c (.inl (.behindS, k))) 0 0 ∗ dutyTok ER (cellE (devP c) (.inl (.aheadR, k))) 0 0))
/-- What it leaves: the received slot, the cell's counter, the rows of the result, the two departures to wait for. -/
def finishPost (c : Dev nD) (k : Fin 8) : sProp 𝕄 :=
  iprop((cPts c (slotS k) (outgoing p (devY c)) ∗ semVal (cellE c (.inl (.upR, k))) 0)
    ∗ oPts c (chk (rho c) k) (result p g c)
    ∗ cred (tallyAt (cellE c (.inl (.aheadS, k))) () (size (.inl (.aheadS, k))))
    ∗ cred (tallyAt (cellE c (.inl (.behindS, k))) () (size (.inl (.behindS, k)))))

theorem run_finish (c : Dev nD) {O : CellTallies nD τ sig Unit} (hO : Above 2 O) (fo : Vec F S1024x1024 .f32)
    (fq fn fp : Vec F S1024x1024 .bf16) (k : Fin 8) (ks : List (Fin 8)) (hk : Above 2 (still (ringOwed c) (k :: ks))) :
    iprop(ctx p g K ∗ finishPre c fo fq fn fp k ∗ ow c (O + still (ringOwed c) (k :: ks)) ∗ pIn c (p c) ∗ gIn c (g c))
      ⊢ run c (finish c k) fun _ =>
          iprop(finishPost p g c k ∗ ow c (O + still (ringOwed c) ks) ∗ pIn c (p c) ∗ gIn c (g c)) := by
  unfold finishPre finishPost finish
  iintro ⟨#Hx, ⟨⟨Hc, Ha⟩, ⟨Hfo, Hfq⟩, ⟨Hfn, Hfp⟩, ⟨Ht1, Ht2⟩, Ht3, Ht4⟩, Ho, Hp, Hg⟩
  iapply (run_seq (wait_end p g K c (.inl (.upR, k)) (O := O + still (ringOwed c) (k :: ks)) (above_add hO hk)
    (src := slotM sM k) (dst := slotM cM k) rfl)) $$ [Hc Ho Ha]
  · isplitr; · iexact Hx
    isplitl [Hc]; · iexact Hc
    isplitl [Ho] <;> iassumption
  iintro %_ ⟨Hu, Ho, Hz⟩
  rw [still_cons]
  unfold ringOwed
  rw [← add_assoc]
  unfold pIn gIn oPts endPay cPts
  iapply (run_seq (run_load (m := pM) (r := rMine c k) (S := Finset.univ) (Finset.subset_univ _))) $$ [Hp]
  · iexact Hp
  iintro %v ⟨%hv, Hp⟩
  iapply (run_seq (run_load (m := cM) (r := slot k) (S := slotS k) (subset_of_eq (cAcc_set k)))) $$ [Hu]
  · iexact Hu
  iintro %u ⟨%hu, Hu⟩
  iapply (run_seq (run_load (m := gM) (r := rG) (S := Finset.univ) (Finset.subset_univ _))) $$ [Hg]
  · iexact Hg
  iintro %x ⟨%hx, Hg⟩
  subst hv; subst hu; subst hx
  iapply (run_seq (run_load (m := oM) (r := rOwn c k) (S := chk (rho c) k) (subset_of_eq ((oAcc_set _).trans (rOwn_set c k))))) $$ [Hfo]
  · iexact Hfo
  iintro %_ ⟨-, Hfo⟩
  iapply (run_seq (run_store (m := oM) (r := rOwn c k) (S := chk (rho c) k) (X := result p g c) ((oAcc_set _).trans (rOwn_set c k))
    (read_result_own p g c k))) $$ [Hfo]
  · iexact Hfo
  iintro %_ Hfo
  unfold qPts
  iapply (run_seq (run_load (m := qM) (r := rOwn c k) (S := chk (rho c) k) (subset_of_eq ((qAcc_set _).trans (rOwn_set c k))))) $$ [Hfq]
  · iexact Hfq
  iintro %_ ⟨-, Hfq⟩
  iapply (run_seq (run_store (m := qM) (r := rOwn c k) (S := chk (rho c) k) (X := gathered p g c) ((qAcc_set _).trans (rOwn_set c k))
    (read_gathered_own p g c k))) $$ [Hfq]
  · iexact Hfq
  iintro %_ Hfq
  ihave Hq := (qPts_halves c (chk (rho c) k) (gathered p g c)).1 $$ [Hfq]
  · unfold qPts; iexact Hfq
  icases Hq with ⟨Hql, Hqr⟩
  iapply (run_seq (run_transfer p g K c (devN c) (.inl (.aheadS, k)) (.inl (.behindR, k)) rfl _
    (S := chk (rho c) k) (S' := chk (rho c) k) (X := gathered p g c) (q := qL) (fs := gathered p g c) (fd := fn) (src := qOwn c k) (dst := qOwn c k)
    rfl (qOwn_set c k) (qOwn_set c k) rfl (by unfold endPay qPts; exact .rfl) (by rw [pay_behind]; unfold qPts; exact .rfl))) $$ [Hql Hfn Ho Ht1 Ht2]
  · isplitr; · iexact Hx
    isplitl [Hql]; · unfold qPts; iexact Hql
    isplitl [Hfn]; · iexact Hfn
    isplitl [Ho]; · iexact Ho
    isplitl [Ht1] <;> iassumption
  iintro %_ ⟨Hc1, Ho⟩
  iapply (run_last (run_transfer p g K c (devP c) (.inl (.behindS, k)) (.inl (.aheadR, k)) rfl _
    (S := chk (rho c) k) (S' := chk (rho c) k) (X := gathered p g c) (q := qR) (fs := gathered p g c) (fd := fp) (src := qOwn c k) (dst := qOwn c k)
    rfl (qOwn_set c k) (qOwn_set c k) rfl (by unfold endPay qPts; exact .rfl) (by rw [pay_ahead]; unfold qPts; exact .rfl))) $$ [Hqr Hfp Ho Ht3 Ht4]
  · isplitr; · iexact Hx
    isplitl [Hqr]; · unfold qPts; iexact Hqr
    isplitl [Hfp]; · iexact Hfp
    isplitl [Ho]; · iexact Ho
    isplitl [Ht3] <;> iassumption
  iintro %_ ⟨Hc2, Ho⟩
  isplitl [Hu Hz Hfo Hc1 Hc2]
  · isplitl [Hu Hz]; · isplitl [Hu] <;> iassumption
    isplitl [Hfo]; · iexact Hfo
    isplitl [Hc1] <;> iassumption
  isplitl [Ho]; · iexact Ho
  isplitl [Hp] <;> iassumption

/-! ## Waits -/

/-- What a wait for end `x` takes; -/
def waitPre (c : Dev nD) (x : End) : sProp 𝕄 := iprop(cred (tallyAt (cellE c x) () (size x)) ∗ atPos ER (cellE c x) 0 ∅ 0)
/-- what it leaves. -/
def waitPost (c : Dev nD) (x : End) : sProp 𝕄 := iprop(endPay p g c x ∗ semVal (cellE c x) 0)

theorem run_wait (c : Dev nD) (x : End) {O : CellTallies nD τ sig Unit} (hO : Above (level (some x)) O)
    {sp sp' : Space} {s s' : Shape} {e e' : EltTy} {src : Memref sig .tc sp' s' e'} {dst : Memref sig .tc sp s e}
    {h₁ : src.view.WordExact} {h₂ : dst.view.WordExact} (hn : dst.view.dmaCredit = size x) :
    iprop(ctx p g K ∗ waitPre c x ∗ ow c O)
      ⊢ run c (Prog.lift (.waitDma2 (endSem x) src dst h₁ h₂)) fun _ => iprop(waitPost p g c x ∗ ow c O) := by
  unfold waitPre waitPost
  iintro ⟨#Hx, ⟨Hc, Ha⟩, Ho⟩
  iapply (run_last (wait_end p g K c x hO hn)) $$ [Hc Ha Ho]
  · isplitr; · iexact Hx
    isplitl [Hc]; · iexact Hc
    isplitl [Ho] <;> iassumption
  iintro %_ ⟨Hp, Ho, Hz⟩
  isplitl [Hp Hz]
  · isplitl [Hp] <;> iassumption
  iexact Ho

theorem run_fromPrev (c : Dev nD) {O : CellTallies nD τ sig Unit} (hO : Above 3 O) (k : Fin 8) :
    iprop(ctx p g K ∗ waitPre c (.inl (.behindR, k)) ∗ ow c O)
      ⊢ run c (fromPrev c k) fun _ => iprop(waitPost p g c (.inl (.behindR, k)) ∗ ow c O) :=
  run_wait p g K c (.inl (.behindR, k)) hO rfl
theorem run_fromNext (c : Dev nD) {O : CellTallies nD τ sig Unit} (hO : Above 3 O) (k : Fin 8) :
    iprop(ctx p g K ∗ waitPre c (.inl (.aheadR, k)) ∗ ow c O)
      ⊢ run c (fromNext c k) fun _ => iprop(waitPost p g c (.inl (.aheadR, k)) ∗ ow c O) :=
  run_wait p g K c (.inl (.aheadR, k)) hO rfl
theorem run_sentUp (c : Dev nD) (k : Fin 8) :
    iprop(ctx p g K ∗ waitPre c (.inl (.upS, k)) ∗ ow c 0)
      ⊢ run c (sentUp k) fun _ => iprop(waitPost p g c (.inl (.upS, k)) ∗ ow c 0) :=
  run_wait p g K c (.inl (.upS, k)) (above_zero _) rfl
theorem run_sentAround (c : Dev nD) (k : Fin 8) :
    iprop(ctx p g K ∗ (waitPre c (.inl (.aheadS, k)) ∗ waitPre c (.inl (.behindS, k))) ∗ ow c 0)
      ⊢ run c (sentAround c k) fun _ =>
          iprop((waitPost p g c (.inl (.aheadS, k)) ∗ waitPost p g c (.inl (.behindS, k))) ∗ ow c 0) := by
  unfold sentAround
  iintro ⟨#Hx, ⟨H1, H2⟩, Ho⟩
  iapply (run_seq (run_wait p g K c (.inl (.aheadS, k)) (above_zero _) (src := qOwn c k) (dst := qOwn c k) rfl)) $$ [H1 Ho]
  · isplitr; · iexact Hx
    isplitl [H1] <;> iassumption
  iintro %_ ⟨H1, Ho⟩
  iapply (run_last (run_wait p g K c (.inl (.behindS, k)) (above_zero _) (src := qOwn c k) (dst := qOwn c k) rfl)) $$ [H2 Ho]
  · isplitr; · iexact Hx
    isplitl [H2] <;> iassumption
  iintro %_ ⟨H2, Ho⟩
  isplitl [H1 H2]
  · isplitl [H1] <;> iassumption
  iexact Ho
theorem run_sentOn1 (c : Dev nD) :
    iprop(ctx p g K ∗ waitPre c (.inr .aheadS) ∗ ow c 0) ⊢ run c (sentOn1 c) fun _ => iprop(waitPost p g c (.inr .aheadS) ∗ ow c 0) :=
  run_wait p g K c (.inr .aheadS) (above_zero _) rfl
theorem run_sentOn2 (c : Dev nD) :
    iprop(ctx p g K ∗ waitPre c (.inr .behindS) ∗ ow c 0) ⊢ run c (sentOn2 c) fun _ => iprop(waitPost p g c (.inr .behindS) ∗ ow c 0) :=
  run_wait p g K c (.inr .behindS) (above_zero _) rfl

end Chunk

end Cert.RingRms

end
-- ==== Proof.Halves.lean ====
/-
# Half quarters and quarters

Passing on the half quarters, widening the gathered rows into the result.
-/
module

public import proofs.«01_k».proof.Proof.Chunks

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Eff" => TpuEff nD τ sig (Elt F) Λ₀ Proc.tc

variable (p : Dev nD → Vec F S2048x1024 .f32) (g : Dev nD → Vec F S1x1024 .f32) (K : Dev nD × Cel → ℕ)

/-! ## Passing on -/

theorem run_forward1 (c : Dev nD) (O : CellTallies nD τ sig Unit) (f : Vec F S1024x1024 .bf16) :
    iprop(ctx p g K ∗ qPts c (fst (rho c + 3)) qL (gathered p g c) ∗ qPts (devN c) (fst (rho c + 3)) fullShare f
        ∗ ow c (O + tallyAt (cellE (devN c) (.inr .behindR)) () (size (.inr .behindR)))
        ∗ dutyTok ER (cellE c (.inr .aheadS)) 0 0 ∗ dutyTok ER (cellE (devN c) (.inr .behindR)) 0 0)
      ⊢ run c (forward1 c) fun _ => iprop(cred (tallyAt (cellE c (.inr .aheadS)) () (size (.inr .aheadS))) ∗ ow c O) :=
  run_transfer p g K c (devN c) (.inr .aheadS) (.inr .behindR) rfl O
    (S := fst (rho c + 3)) (S' := fst (rho c + 3)) (X := gathered p g c) (q := qL) (fs := gathered p g c) (fd := f) (src := qFst c 1) (dst := qFst c 1)
    rfl (qFst_set c 1) (qFst_set c 1) rfl (by unfold endPay qPts; exact .rfl) (by rw [pay_on_behind]; unfold qPts; exact .rfl)

theorem run_forward2 (c : Dev nD) (O : CellTallies nD τ sig Unit) (f : Vec F S1024x1024 .bf16) :
    iprop(ctx p g K ∗ qPts c (snd (rho c + 1)) qL (gathered p g c) ∗ qPts (devP c) (snd (rho c + 1)) fullShare f
        ∗ ow c (O + tallyAt (cellE (devP c) (.inr .aheadR)) () (size (.inr .aheadR)))
        ∗ dutyTok ER (cellE c (.inr .behindS)) 0 0 ∗ dutyTok ER (cellE (devP c) (.inr .aheadR)) 0 0)
      ⊢ run c (forward2 c) fun _ => iprop(cred (tallyAt (cellE c (.inr .behindS)) () (size (.inr .behindS))) ∗ ow c O) :=
  run_transfer p g K c (devP c) (.inr .behindS) (.inr .aheadR) rfl O
    (S := snd (rho c + 1)) (S' := snd (rho c + 1)) (X := gathered p g c) (q := qL) (fs := gathered p g c) (fd := f) (src := qSnd c 0) (dst := qSnd c 0)
    rfl (qSnd_set c 0) (qSnd_set c 0) rfl (by unfold endPay qPts; exact .rfl) (by rw [pay_on_ahead]; unfold qPts; exact .rfl)

/-! ## Widening -/

/-- Off the device's own quarter, the result reads as the gathered rows widened. -/
theorem read_widened (d : Dev nD) (r : Rect S1024x1024) {j : Fin 4} (hr : r.set ⊆ qtr j) (hj : j ≠ rho d) (x : r.shape.Idx) :
    (oM.access r).read (Elt F) (result p g d) x
      = FloatOps.extf .f32 bitsLt_bf16_f32 ((qM.access r).read (Elt F) (gathered p g d) x) := by
  have hx : r.emb x ∈ qtr j := hr (by rw [← Rect.map_emb_univ]; exact Finset.mem_map_of_mem _ (Finset.mem_univ x))
  exact result_off p g (fun h => hj ((quarter_of hx).symm.trans h))

theorem fst_qtr (j : Fin 4) : fst j ⊆ qtr j := fun i h => by rw [mem_rows] at *; omega
theorem snd_qtr (j : Fin 4) : snd j ⊆ qtr j := fun i h => by rw [mem_rows] at *; omega
theorem rho_off (a : Fin 4) : a + 1 ≠ a ∧ a + 2 ≠ a ∧ a + 3 ≠ a := by revert a; decide
theorem rho_step (d : Dev nD) (r : Fin 2) : rho d + (if r = 0 then 1 else 3) ≠ rho d := by
  generalize rho d = a
  revert a r; decide

theorem run_widen256 (c : Dev nD) (r : Fin 2) {j : Fin 4} (hj : rho c + (if r = 0 then 1 else 3) = j) (q : PosShare TreeShare) (fo : Vec F S1024x1024 .f32) :
    iprop(qPts c (qtr j) q (gathered p g c) ∗ oPts c (qtr j) fo)
      ⊢ run c (widen256 c r) fun _ => iprop(qPts c (qtr j) q (gathered p g c) ∗ oPts c (qtr j) (result p g c)) := by
  subst hj
  unfold qPts oPts widen256
  iintro ⟨Hq, Ho⟩
  iapply (run_seq (run_load (m := qM) (r := rQtr c r) (subset_of_eq ((qAcc_set _).trans (rQtr_set c r))))) $$ [Hq]
  · iexact Hq
  iintro %v ⟨%hv, Hq⟩
  iapply (run_seq (run_load (m := oM) (r := rQtr c r) (subset_of_eq ((oAcc_set _).trans (rQtr_set c r))))) $$ [Ho]
  · iexact Ho
  iintro %_ ⟨-, Ho⟩
  subst hv
  iapply (run_last (run_store (m := oM) (r := rQtr c r) (X := result p g c) ((oAcc_set _).trans (rQtr_set c r))
    (funext fun x => read_widened p g c (rQtr c r) (subset_of_eq (rQtr_set c r)) (rho_step c r) x))) $$ [Ho]
  · iexact Ho
  iintro %_ Ho
  isplitl [Hq] <;> iassumption

/-- What the wait for a half quarter and its widening take; -/
def oppPre (c : Dev nD) (x : End) (S : Finset S1024x1024.Idx) (fo : Vec F S1024x1024 .f32) : sProp 𝕄 := iprop(waitPre c x ∗ oPts c S fo)
/-- what they leave. -/
def oppPost (c : Dev nD) (x : End) (S : Finset S1024x1024.Idx) : sProp 𝕄 := iprop(waitPost p g c x ∗ oPts c S (result p g c))

theorem run_opposite1 (c : Dev nD) (fo : Vec F S1024x1024 .f32) :
    iprop(ctx p g K ∗ oppPre c (.inr .behindR) (fst (rho c + 2)) fo ∗ ow c 0)
      ⊢ run c (opposite1 c) fun _ => iprop(oppPost p g c (.inr .behindR) (fst (rho c + 2)) ∗ ow c 0) := by
  unfold oppPre oppPost opposite1
  iintro ⟨#Hx, ⟨Hw, Ho⟩, HO⟩
  iapply (run_seq (run_wait p g K c (.inr .behindR) (above_zero _) (src := qTop128) (dst := qFst c 0) rfl)) $$ [Hw HO]
  · isplitr; · iexact Hx
    isplitl [Hw] <;> iassumption
  unfold waitPost endPay qPts oPts
  iintro %_ ⟨⟨Hq, Hz⟩, HO⟩
  iapply (run_seq (run_load (m := qM) (r := rOpp1 c) (subset_of_eq ((qAcc_set _).trans (rOpp1_set c))))) $$ [Hq]
  · iexact Hq
  iintro %v ⟨%hv, Hq⟩
  iapply (run_seq (run_load (m := oM) (r := rOpp1 c) (subset_of_eq ((oAcc_set _).trans (rOpp1_set c))))) $$ [Ho]
  · iexact Ho
  iintro %_ ⟨-, Ho⟩
  subst hv
  iapply (run_last (run_store (m := oM) (r := rOpp1 c) (X := result p g c) ((oAcc_set _).trans (rOpp1_set c))
    (funext fun x => read_widened p g c (rOpp1 c) ((subset_of_eq (rOpp1_set c)).trans (fst_qtr _)) (rho_off _).2.1 x))) $$ [Ho]
  · iexact Ho
  iintro %_ Ho
  isplitl [Hq Hz Ho]
  · isplitl [Hq Hz]
    · isplitl [Hq] <;> iassumption
    iexact Ho
  iexact HO

theorem run_opposite2 (c : Dev nD) (fo : Vec F S1024x1024 .f32) :
    iprop(ctx p g K ∗ oppPre c (.inr .aheadR) (snd (rho c + 2)) fo ∗ ow c 0)
      ⊢ run c (opposite2 c) fun _ => iprop(oppPost p g c (.inr .aheadR) (snd (rho c + 2)) ∗ ow c 0) := by
  unfold oppPre oppPost opposite2
  iintro ⟨#Hx, ⟨Hw, Ho⟩, HO⟩
  iapply (run_seq (run_wait p g K c (.inr .aheadR) (above_zero _) (src := qTop128) (dst := qSnd c 1) rfl)) $$ [Hw HO]
  · isplitr; · iexact Hx
    isplitl [Hw] <;> iassumption
  unfold waitPost endPay qPts oPts
  iintro %_ ⟨⟨Hq, Hz⟩, HO⟩
  iapply (run_seq (run_load (m := qM) (r := rOpp2 c) (subset_of_eq ((qAcc_set _).trans (rOpp2_set c))))) $$ [Hq]
  · iexact Hq
  iintro %v ⟨%hv, Hq⟩
  iapply (run_seq (run_load (m := oM) (r := rOpp2 c) (subset_of_eq ((oAcc_set _).trans (rOpp2_set c))))) $$ [Ho]
  · iexact Ho
  iintro %_ ⟨-, Ho⟩
  subst hv
  iapply (run_last (run_store (m := oM) (r := rOpp2 c) (X := result p g c) ((oAcc_set _).trans (rOpp2_set c))
    (funext fun x => read_widened p g c (rOpp2 c) ((subset_of_eq (rOpp2_set c)).trans (snd_qtr _)) (rho_off _).2.1 x))) $$ [Ho]
  · iexact Ho
  iintro %_ Ho
  isplitl [Hq Hz Ho]
  · isplitl [Hq Hz]
    · isplitl [Hq] <;> iassumption
    iexact Ho
  iexact HO

end Cert.RingRms

end
-- ==== Proof.Pieces.lean ====
/-
# Cutting and joining

Rows of a buffer held as one, or by quarters, halves and chunks; resources indexed by the ends of the transfers, by family.
-/
module

public import proofs.«01_k».proof.Proof.Chunks

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

omit [FloatOps F] in
/-- Two resources per number are two lists of resources. -/
theorem bigSepL_both (l : List (Fin 8)) (A B : Fin 8 → sProp 𝕄) :
    bigSepL l (fun k => iprop(A k ∗ B k)) = iprop(bigSepL l A ∗ bigSepL l B) := by
  induction l with
  | nil => exact (equiv_iff.mp emp_sep).symm
  | cons k ks ih =>
    rw [bigSepL_cons', bigSepL_cons', bigSepL_cons', ih]
    refine equiv_iff.mp ⟨(?_ : (_ : sProp 𝕄) ⊢ _), (?_ : (_ : sProp 𝕄) ⊢ _)⟩
    · iintro ⟨⟨HA, HB⟩, HAs, HBs⟩
      isplitl [HA HAs]
      · isplitl [HA] <;> iassumption
      isplitl [HB] <;> iassumption
    · iintro ⟨⟨HA, HAs⟩, HB, HBs⟩
      isplitl [HA HB]
      · isplitl [HA] <;> iassumption
      isplitl [HAs] <;> iassumption

omit [FloatOps F] in
theorem all8_halves (A : Fin 8 → sProp 𝕄) : bigSepL all8 A = iprop(bigSepL lo4 A ∗ bigSepL hi4 A) := bigSepL_append lo4 hi4 A

omit [FloatOps F] in
theorem univ_all8 (A : Fin 8 → sProp 𝕄) : bigSep Finset.univ A = bigSepL all8 A :=
  bigSep_univ_eq_bigSepL all8 (by decide) (by decide) A

omit [FloatOps F] in
/-- A resource per end, by family. -/
theorem by_family (Φ : End → sProp 𝕄) : bigSep Finset.univ Φ
    = iprop((bigSepL all8 (fun k => Φ (.inl (.upS, k))) ∗ bigSepL all8 (fun k => Φ (.inl (.upR, k))) ∗ bigSepL all8 (fun k => Φ (.inl (.aheadS, k)))
        ∗ bigSepL all8 (fun k => Φ (.inl (.behindS, k))) ∗ bigSepL all8 (fun k => Φ (.inl (.behindR, k))) ∗ bigSepL all8 (fun k => Φ (.inl (.aheadR, k))))
      ∗ Φ (.inr .aheadS) ∗ Φ (.inr .behindS) ∗ Φ (.inr .behindR) ∗ Φ (.inr .aheadR)) := by
  rw [bigSep_univ_sum, bigSep_univ_prod]
  simp only [univ_all8]
  rw [bigSep_univ_eq_bigSepL [Fam.upS, .upR, .aheadS, .behindS, .behindR, .aheadR] (by decide) (by decide),
    bigSep_univ_eq_bigSepL [Fwd.aheadS, .behindS, .behindR, .aheadR] (by decide) (by decide)]
  rfl

/-! ## Rows -/

/-- A resource on sets of elements that disjoint unions cut. -/
def Cuts (P : Finset S1024x1024.Idx → sProp 𝕄) : Prop := ∀ I J, Disjoint I J → P (I ∪ J) = iprop(P I ∗ P J)

theorem qPts_cuts (c : Dev nD) (q : PosShare TreeShare) (f : Vec F S1024x1024 .bf16) : Cuts (fun S => (qPts c S q f : sProp 𝕄)) :=
  fun I J h => by
    unfold qPts
    exact equiv_iff.mp ⟨(pointsTo_union (ℓ := qM.view.loc (c : Thread nD τ)) (I := I) (J := J) (q := q) (f := f) h).1,
      (pointsTo_union (ℓ := qM.view.loc (c : Thread nD τ)) (I := I) (J := J) (q := q) (f := f) h).2⟩
theorem oPts_cuts (c : Dev nD) (f : Vec F S1024x1024 .f32) : Cuts (fun S => (oPts c S f : sProp 𝕄)) :=
  fun I J h => by
    unfold oPts
    exact equiv_iff.mp ⟨(pointsTo_union (ℓ := oM.view.loc (c : Thread nD τ)) (I := I) (J := J) (q := fullShare) (f := f) h).1,
      (pointsTo_union (ℓ := oM.view.loc (c : Thread nD τ)) (I := I) (J := J) (q := fullShare) (f := f) h).2⟩

theorem quarters (j : Fin 4) : (Finset.univ : Finset S1024x1024.Idx) = qtr j ∪ (qtr (j + 1) ∪ (qtr (j + 3) ∪ qtr (j + 2))) := by
  have hv : (j + 1).val = (j.val + 1) % 4 ∧ (j + 2).val = (j.val + 2) % 4 ∧ (j + 3).val = (j.val + 3) % 4 := by revert j; decide
  obtain ⟨h1, h2, h3⟩ := hv
  have hj := j.isLt
  ext i
  have hi : (i 0).val < 1024 := (i 0).isLt
  simp only [Finset.mem_univ, Finset.mem_union, mem_rows, base, true_iff]
  omega

theorem qtr_disjoint {j j' : Fin 4} (h : j ≠ j') : Disjoint (qtr j) (qtr j') :=
  Finset.disjoint_left.mpr fun i h₁ h₂ => h ((quarter_of h₁).symm.trans (quarter_of h₂))

section Cut
variable {P : Finset S1024x1024.Idx → sProp (MT nD τ sig Unit (Elt F) ℕ UU ℕ)} (hP : Cuts P)
include hP

theorem cut_at {a b c : ℕ} (h₁ : a ≤ b) (h₂ : b ≤ c) : P (rows a c) = iprop(P (rows a b) ∗ P (rows b c)) := by
  rw [← rows_union h₁ h₂]; exact hP _ _ (rows_disjoint le_rfl)

/-- 128 rows are four times 32 rows. -/
theorem cut_four (a : ℕ) : P (rows a (a + 128))
    = iprop(P (rows a (a + 32)) ∗ P (rows (a + 32) (a + 64)) ∗ P (rows (a + 64) (a + 96)) ∗ P (rows (a + 96) (a + 128))) := by
  rw [cut_at hP (a := a) (b := a + 32) (c := a + 128) (by omega) (by omega),
    cut_at hP (a := a + 32) (b := a + 64) (c := a + 128) (by omega) (by omega),
    cut_at hP (a := a + 64) (b := a + 96) (c := a + 128) (by omega) (by omega)]

/-- A quarter is its two halves, -/
theorem cut_qtr (j : Fin 4) : P (qtr j) = iprop(P (fst j) ∗ P (snd j)) := cut_at hP (by omega) (by omega)
/-- a first half four chunks, -/
theorem cut_fst (j : Fin 4) : P (fst j) = bigSepL lo4 fun k => P (chk j k) := by
  rw [cut_four hP]
  rfl
/-- a second half the other four, -/
theorem cut_snd (j : Fin 4) : P (snd j) = bigSepL hi4 fun k => P (chk j k) := by
  rw [show snd j = rows (base j + 128) (base j + 128 + 128) from rfl, cut_four hP]
  rfl
/-- a quarter eight chunks. -/
theorem cut_chunks (j : Fin 4) : P (qtr j) = bigSepL all8 fun k => P (chk j k) := by
  rw [cut_qtr hP, cut_fst hP, cut_snd hP, all8_halves]

/-- A buffer is its own quarter, the quarters ahead and behind, the two halves of the quarter opposite. -/
theorem cut_all (j : Fin 4) : P Finset.univ = iprop(P (qtr j) ∗ P (qtr (j + 1)) ∗ P (qtr (j + 3)) ∗ P (fst (j + 2)) ∗ P (snd (j + 2))) := by
  have hn : j ≠ j + 1 ∧ j ≠ j + 3 ∧ j ≠ j + 2 ∧ j + 1 ≠ j + 3 ∧ j + 1 ≠ j + 2 ∧ j + 3 ≠ j + 2 := by revert j; decide
  obtain ⟨n1, n2, n3, n4, n5, n6⟩ := hn
  rw [quarters j, hP _ _ (by
      rw [Finset.disjoint_union_right, Finset.disjoint_union_right]
      exact ⟨qtr_disjoint n1, qtr_disjoint n2, qtr_disjoint n3⟩),
    hP _ _ (by rw [Finset.disjoint_union_right]; exact ⟨qtr_disjoint n4, qtr_disjoint n5⟩),
    hP _ _ (qtr_disjoint n6), cut_qtr hP (j + 2)]

end Cut

/-! ## Slots -/

theorem slots_disjoint : ∀ k ∈ (Finset.univ : Finset (Fin 8)), ∀ k' ∈ (Finset.univ : Finset (Fin 8)), k ≠ k' → Disjoint (slotS k) (slotS k') :=
  fun k _ k' _ h => Finset.disjoint_left.mpr fun i h₁ h₂ => h (Fin.ext ((mem_slotS.mp h₁).symm.trans (mem_slotS.mp h₂)))
theorem slots_all : (Finset.univ : Finset (Fin 8)).biUnion slotS = Finset.univ := by
  ext i
  simp only [Finset.mem_biUnion, Finset.mem_univ, true_and, iff_true]
  exact ⟨i 0, mem_slotS.mpr rfl⟩

theorem sPts_slots (c : Dev nD) (f : Vec F S8x32x1024 .bf16) : (sPts c Finset.univ f : sProp 𝕄) = bigSepL all8 fun k => sPts c (slotS k) f := by
  rw [← slots_all, ← univ_all8]; unfold sPts; exact pointsTo_biUnion _ _ slots_disjoint
theorem cPts_slots (c : Dev nD) (f : Vec F S8x32x1024 .bf16) : (cPts c Finset.univ f : sProp 𝕄) = bigSepL all8 fun k => cPts c (slotS k) f := by
  rw [← slots_all, ← univ_all8]; unfold cPts; exact pointsTo_biUnion _ _ slots_disjoint

end Cert.RingRms

end
-- ==== Proof.Body.lean ====
/-
# The body on one device

From the resources a device starts with to those it ends with: `run_body`. The loops come first, each by its rule for one
chunk; then the statements in order.
-/
module

public import proofs.«01_k».proof.Proof.Handshake
public import proofs.«01_k».proof.Proof.Halves
public import proofs.«01_k».proof.Proof.Pieces

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Eff" => TpuEff nD τ sig (Elt F) Λ₀ Proc.tc

variable (p : Dev nD → Vec F S2048x1024 .f32) (g : Dev nD → Vec F S1x1024 .f32) (K : Dev nD × Cel → ℕ)

/-! ## What a device owes -/

/-- What it owes after its chunks have left: the two passed-on arrivals, -/
def onOwed (c : Dev nD) : CellTallies nD τ sig Unit :=
  0 + tallyAt (cellE (devP c) (.inr .aheadR)) () (size (.inr .aheadR)) + tallyAt (cellE (devN c) (.inr .behindR)) () (size (.inr .behindR))
/-- before its finished chunks have left, -/
def aroundOwed (c : Dev nD) : CellTallies nD τ sig Unit := onOwed c + still (ringOwed c) all8
/-- before any has, -/
def chunksOwed (c : Dev nD) : CellTallies nD τ sig Unit := aroundOwed c + still (upOwed c) all8
/-- at the start. -/
def allOwed (c : Dev nD) : CellTallies nD τ sig Unit := barOwed c (chunksOwed c)

theorem above_on2 (c : Dev nD) : Above 3 (0 + tallyAt (cellE (devP c) (.inr .aheadR)) () (size (.inr .aheadR))) :=
  above_add (above_zero _) (above_cell _ _ _ (by decide))
theorem above_on (c : Dev nD) : Above 3 (onOwed c) := above_add (above_on2 c) (above_cell _ _ _ (by decide))
theorem above_ring (c : Dev nD) (ks : List (Fin 8)) : Above 2 (still (ringOwed c) ks) :=
  above_still (fun k => above_add (above_cell _ (some (.inl (.aheadR, k))) _ (by show 2 < 3; decide))
    (above_cell _ (some (.inl (.behindR, k))) _ (by show 2 < 3; decide))) ks
theorem above_le {m n : ℕ} (h : m ≤ n) {O : CellTallies nD τ sig Unit} (hO : Above n O) : Above m O :=
  fun c u hp => ⟨(hO c u hp).1, lt_of_le_of_lt h (hO c u hp).2⟩
theorem above_chunks (c : Dev nD) : Above 1 (chunksOwed c) :=
  above_add (above_add (above_le (by decide) (above_on c)) (above_le (by decide) (above_ring c all8)))
    (above_still (fun k => above_cell _ (some (.inl (.upR, k))) _ (by show 1 < 2; decide)) all8)

/-! ## The loops -/

/-- All eight chunks sent up. -/
theorem run_sendUps (c : Dev nD) (O : CellTallies nD τ sig Unit) (fs fc : Vec F S8x32x1024 .bf16) :
    iprop(ctx p g K ∗ bigSepL all8 (upPre c fs fc) ∗ ow c (O + still (upOwed c) all8) ∗ pIn c (p c))
      ⊢ run c (each all8 (sendUp c)) fun _ =>
          iprop(bigSepL all8 (fun k => cred (tallyAt (cellE c (.inl (.upS, k))) () (size (.inl (.upS, k))))) ∗ ow c O ∗ pIn c (p c)) := by
  have h := run_each (c := c) (f := sendUp c) (C := ctx p g K) (A := upPre c fs fc)
    (B := fun k => cred (tallyAt (cellE c (.inl (.upS, k))) () (size (.inl (.upS, k)))))
    (S := fun ks => iprop(ow c (O + still (upOwed c) ks) ∗ pIn c (p c))) (fun k ks => run_sendUp p g K c O fs fc k ks) all8
  rw [show still (upOwed c) [] = 0 from rfl, add_zero] at h
  exact h

/-- All eight finished. -/
theorem run_finishes (c : Dev nD) {O : CellTallies nD τ sig Unit} (hO : Above 2 O) (fo : Vec F S1024x1024 .f32) (fq fn fp : Vec F S1024x1024 .bf16) :
    iprop(ctx p g K ∗ bigSepL all8 (finishPre c fo fq fn fp) ∗ ow c (O + still (ringOwed c) all8) ∗ pIn c (p c) ∗ gIn c (g c))
      ⊢ run c (each all8 (finish c)) fun _ => iprop(bigSepL all8 (finishPost p g c) ∗ ow c O ∗ pIn c (p c) ∗ gIn c (g c)) := by
  have h := run_each (c := c) (f := finish c) (C := ctx p g K) (A := finishPre c fo fq fn fp) (B := finishPost p g c)
    (S := fun ks => iprop(ow c (O + still (ringOwed c) ks) ∗ pIn c (p c) ∗ gIn c (g c)))
    (fun k ks => run_finish p g K c hO fo fq fn fp k ks (above_ring c _)) all8
  rw [show still (ringOwed c) [] = 0 from rfl, add_zero] at h
  exact h

/-- A loop of waits. -/
theorem run_waits {c : Dev nD} {O : CellTallies nD τ sig Unit} {f : Fin 8 → Prog Eff PUnit} {A B : Fin 8 → sProp 𝕄}
    (h : ∀ k, iprop(ctx p g K ∗ A k ∗ ow c O) ⊢ run c (f k) fun _ => iprop(B k ∗ ow c O)) (l : List (Fin 8)) :
    iprop(ctx p g K ∗ bigSepL l A ∗ ow c O) ⊢ run c (each l f) fun _ => iprop(bigSepL l B ∗ ow c O) :=
  run_each (S := fun _ => ow c O) (fun k _ => h k) l

/-! ## Start and end -/

/-- What a device starts with, but for what it owes: positions on its cells, credit for the arrivals (`rcv`), -/
def rcv : End → ℕ
  | .inl (.upR, k) => size (.inl (.upR, k))
  | .inl (.behindR, k) => size (.inl (.behindR, k))
  | .inl (.aheadR, k) => size (.inl (.aheadR, k))
  | .inr .behindR => size (.inr .behindR)
  | .inr .aheadR => size (.inr .aheadR)
  | _ => 0
/-- its barrier's credit and position, and the tokens of all it will signal and transfer; -/
def kit (c : Dev nD) : sProp 𝕄 :=
  iprop((cred (tallyAt (cell c none) () 3) ∗ atPos ER (cell c none) 0 ∅ 0)
    ∗ (dutyTok ER (cell (devY c) none) 0 0 ∗ dutyTok ER (cell (devN c) none) 0 1 ∗ dutyTok ER (cell (devP c) none) 0 2)
    ∗ (bigSep Finset.univ fun x : End => cred (tallyAt (cellE c x) () (rcv x)))
    ∗ (bigSep Finset.univ fun x : End => atPos ER (cellE c x) 0 ∅ 0)
    ∗ (bigSep Finset.univ fun x : End => dutyTok ER (cellE (endTo x c) x) 0 0))
/-- its scratch buffers, whatever they hold; -/
def scratch (c : Dev nD) : sProp 𝕄 :=
  iprop((∃ f, sPts c Finset.univ f) ∗ (∃ f, cPts c Finset.univ f) ∗ ∃ f, qPts c Finset.univ fullShare f)
/-- its counters, at zero. -/
def zeros (c : Dev nD) : sProp 𝕄 :=
  iprop(semVal (cell c none) 0 ∗ bigSep Finset.univ fun x : End => semVal (cellE c x) 0)

/-! ## What the neighbours hand over -/

theorem bar_fromP (c : Dev nD) : (barPay (devP c) 1 : sProp 𝕄)
    = iprop((∃ f, qPts (devP c) (qtr (rho c)) fullShare f) ∗ ∃ f, qPts (devP c) (snd (rho c + 1)) fullShare f) := by
  unfold barPay; rw [rho_devP, (rho_around _).2.1, (rho_around _).2.2.2]
theorem bar_fromN (c : Dev nD) : (barPay (devN c) 2 : sProp 𝕄)
    = iprop((∃ f, qPts (devN c) (qtr (rho c)) fullShare f) ∗ ∃ f, qPts (devN c) (fst (rho c + 3)) fullShare f) := by
  unfold barPay; rw [rho_devN, (rho_around _).1, (rho_around _).2.2.1]

/-! ## Arrived halves -/

/-- Four arrivals of the first half of a quarter, in family `x`: the half, at the two half shares, and the four counters; -/
theorem arrived_fst (c : Dev nD) (x : Fam) (j : Fin 4) (hx : ∀ k, endPay p g c (.inl (x, k)) = qPts c (chk j k) fullShare (gathered p g c)) :
    bigSepL lo4 (fun k => waitPost p g c (.inl (x, k)))
      ⊢ iprop(qPts c (fst j) qL (gathered p g c) ∗ qPts c (fst j) qR (gathered p g c) ∗ bigSepL lo4 fun k => semVal (cellE c (.inl (x, k))) 0) := by
  unfold waitPost
  rw [bigSepL_both, show (fun k => endPay p g c (.inl (x, k))) = fun k => qPts c (chk j k) fullShare (gathered p g c) from funext hx,
    ← cut_fst (qPts_cuts c fullShare (gathered p g c)) j]
  iintro ⟨H, Hz⟩
  ihave H := (qPts_halves c (fst j) (gathered p g c)).1 $$ H
  icases H with ⟨H1, H2⟩
  isplitl [H1]; · iexact H1
  isplitl [H2] <;> iassumption
/-- of the second half. -/
theorem arrived_snd (c : Dev nD) (x : Fam) (j : Fin 4) (hx : ∀ k, endPay p g c (.inl (x, k)) = qPts c (chk j k) fullShare (gathered p g c)) :
    bigSepL hi4 (fun k => waitPost p g c (.inl (x, k)))
      ⊢ iprop(qPts c (snd j) qL (gathered p g c) ∗ qPts c (snd j) qR (gathered p g c) ∗ bigSepL hi4 fun k => semVal (cellE c (.inl (x, k))) 0) := by
  unfold waitPost
  rw [bigSepL_both, show (fun k => endPay p g c (.inl (x, k))) = fun k => qPts c (chk j k) fullShare (gathered p g c) from funext hx,
    ← cut_snd (qPts_cuts c fullShare (gathered p g c)) j]
  iintro ⟨H, Hz⟩
  ihave H := (qPts_halves c (snd j) (gathered p g c)).1 $$ H
  icases H with ⟨H1, H2⟩
  isplitl [H1]; · iexact H1
  isplitl [H2] <;> iassumption

/-- A quarter lent by halves at one half share, kept whole at the other, comes back; -/
theorem qtr_back (c : Dev nD) (j : Fin 4) (f : Vec F S1024x1024 .bf16) :
    iprop(qPts c (fst j) qL f ∗ qPts c (snd j) qL f ∗ qPts c (qtr j) qR f) ⊢ (qPts c (qtr j) fullShare f : sProp 𝕄) := by
  iintro ⟨H1, H2, H3⟩
  iapply (qPts_halves c (qtr j) f).2
  isplitl [H1 H2]
  · iapply (Entails.of_eq (cut_qtr (qPts_cuts c qL f) j).symm)
    isplitl [H1]; · iexact H1
    iexact H2
  iexact H3

/-- all pieces of the gathered buffer make it whole. -/
theorem gathered_join (c : Dev nD) (f : Vec F S1024x1024 .bf16) :
    iprop((bigSepL all8 (fun k => qPts c (chk (rho c) k) qL f) ∗ bigSepL all8 (fun k => qPts c (chk (rho c) k) qR f))
        ∗ (qPts c (fst (rho c + 3)) qL f ∗ qPts c (snd (rho c + 3)) qL f ∗ qPts c (qtr (rho c + 3)) qR f)
        ∗ (qPts c (fst (rho c + 1)) qL f ∗ qPts c (snd (rho c + 1)) qL f ∗ qPts c (qtr (rho c + 1)) qR f)
        ∗ qPts c (fst (rho c + 2)) fullShare f ∗ qPts c (snd (rho c + 2)) fullShare f)
      ⊢ (qPts c Finset.univ fullShare f : sProp 𝕄) := by
  iintro ⟨⟨H1, H2⟩, H3, H4, H5, H6⟩
  iapply (Entails.of_eq (cut_all (qPts_cuts c fullShare f) (rho c)).symm)
  isplitl [H1 H2]
  · iapply (qPts_halves c (qtr (rho c)) f).2
    isplitl [H1]
    · iapply (Entails.of_eq (cut_chunks (qPts_cuts c qL f) (rho c)).symm); iexact H1
    iapply (Entails.of_eq (cut_chunks (qPts_cuts c qR f) (rho c)).symm); iexact H2
  isplitl [H4]; · iapply (qtr_back c (rho c + 1) f); iexact H4
  isplitl [H3]; · iapply (qtr_back c (rho c + 3) f); iexact H3
  isplitl [H5]; · iexact H5
  iexact H6

/-! ## The body -/

theorem run_body (c : Dev nD) (fo : Vec F S1024x1024 .f32) :
    iprop(ctx p g K ∗ kit c ∗ scratch c ∗ ow c (allOwed c) ∗ pIn c (p c) ∗ gIn c (g c) ∗ oPts c Finset.univ fo)
      ⊢ run c (bodyOn c) fun _ =>
          iprop(zeros c ∗ scratch c ∗ ow c 0 ∗ pIn c (p c) ∗ gIn c (g c) ∗ oPts c Finset.univ (result p g c)) := by
  unfold kit scratch zeros allOwed bodyOn
  rw [by_family, by_family, by_family, by_family, cut_all (oPts_cuts c fo) (rho c)]
  iintro ⟨#Hx, ⟨Hb, Hbt, ⟨⟨-, cUp, -, -, cBe, cAh⟩, -, -, cOnB, cOnA⟩, ⟨⟨aUpS, aUp, aAS, aBS, aBe, aAh⟩, aOnAS, aOnBS, aOnB, aOnA⟩,
    ⟨⟨tUpS, tUp, tAS, tBS, tBe, tAh⟩, tOnAS, tOnBS, tOnB, tOnA⟩⟩, ⟨⟨%fs, Hs⟩, Hc, ⟨%fq, Hq⟩⟩, Ho, Hp, Hg, oOwn, oAh, oBe, oFst, oSnd⟩
  ihave Hq := (Entails.of_eq (cut_all (qPts_cuts c fullShare fq) (rho c))) $$ Hq
  icases Hq with ⟨qOwn, qAh, qBe, qFst, qSnd⟩
  -- the handshake
  iapply (run_seq (run_handshake p g K c (above_chunks c))) $$ [Ho Hb Hbt Hc qAh qBe qFst qSnd]
  · isplitr; · iexact Hx
    isplitl [Ho]; · iexact Ho
    isplitl [Hb]; · iexact Hb
    isplitl [Hbt]; · iexact Hbt
    unfold barPay
    isplitl [Hc]; · iexact Hc
    isplitl [qAh qSnd]
    · isplitl [qAh]
      · iexists fq; iexact qAh
      iexists fq; iexact qSnd
    isplitl [qBe]
    · iexists fq; iexact qBe
    iexists fq; iexact qFst
  rw [bar_fromP, bar_fromN]
  iintro %_ ⟨⟨Hy, ⟨⟨%fp, pOwn⟩, ⟨%fp', pSnd⟩⟩, ⟨⟨%fn, nOwn⟩, ⟨%fn', nFst⟩⟩⟩, Ho, zBar⟩
  unfold barPay
  icases Hy with ⟨%fc, Hy⟩
  -- the chunks up
  unfold chunksOwed
  iapply (run_seq (run_sendUps p g K c (aroundOwed c) fs fc)) $$ [Hs Hy tUpS tUp Ho Hp]
  · isplitr; · iexact Hx
    isplitl [Hs Hy tUpS tUp]
    · unfold upPre
      rw [bigSepL_both, bigSepL_both, bigSepL_both]
      isplitl [Hs]; · iapply (Entails.of_eq (sPts_slots c fs)); iexact Hs
      isplitl [Hy]; · iapply (Entails.of_eq (cPts_slots (devY c) fc)); iexact Hy
      isplitl [tUpS]; · iexact tUpS
      iexact tUp
    isplitl [Ho]; · iexact Ho
    iexact Hp
  iintro %_ ⟨cUpS, Ho, Hp⟩
  -- the chunks finished
  unfold aroundOwed
  iapply (run_seq (run_finishes p g K c (above_le (by decide) (above_on c)) fo fq fn fp)) $$ [cUp aUp oOwn qOwn nOwn pOwn tAS tBe tBS tAh Ho Hp Hg]
  · isplitr; · iexact Hx
    isplitl [cUp aUp oOwn qOwn nOwn pOwn tAS tBe tBS tAh]
    · unfold finishPre
      simp only [bigSepL_both]
      isplitl [cUp aUp]
      · isplitl [cUp]; · iexact cUp
        iexact aUp
      isplitl [oOwn qOwn]
      · isplitl [oOwn]
        · iapply (Entails.of_eq (cut_chunks (oPts_cuts c fo) (rho c))); iexact oOwn
        iapply (Entails.of_eq (cut_chunks (qPts_cuts c fullShare fq) (rho c))); iexact qOwn
      isplitl [nOwn pOwn]
      · isplitl [nOwn]
        · iapply (Entails.of_eq (cut_chunks (qPts_cuts (devN c) fullShare fn) (rho c))); iexact nOwn
        iapply (Entails.of_eq (cut_chunks (qPts_cuts (devP c) fullShare fp) (rho c))); iexact pOwn
      isplitl [tAS tBe]
      · isplitl [tAS]; · iexact tAS
        iexact tBe
      isplitl [tBS]; · iexact tBS
      iexact tAh
    isplitl [Ho]; · iexact Ho
    isplitl [Hp]; · iexact Hp
    iexact Hg
  unfold finishPost
  simp only [bigSepL_both]
  iintro %_ ⟨⟨⟨Hc, zUp⟩, oOwn, cAS, cBS⟩, Ho, Hp, Hg⟩
  -- the arrivals from the ring, in two halves each
  ihave Hbe := (Entails.of_eq (all8_halves (fun k => waitPre (F := F) c (.inl (.behindR, k))))) $$ [cBe aBe]
  · unfold waitPre
    rw [bigSepL_both]
    isplitl [cBe]; · iexact cBe
    iexact aBe
  icases Hbe with ⟨be1, be2⟩
  ihave Hah := (Entails.of_eq (all8_halves (fun k => waitPre (F := F) c (.inl (.aheadR, k))))) $$ [cAh aAh]
  · unfold waitPre
    rw [bigSepL_both]
    isplitl [cAh]; · iexact cAh
    iexact aAh
  icases Hah with ⟨ah1, ah2⟩
  iapply (run_seq (run_waits p g K (run_fromPrev p g K c (above_on c)) lo4)) $$ [be1 Ho]
  · isplitr; · iexact Hx
    isplitl [be1]; · iexact be1
    iexact Ho
  iintro %_ ⟨be1, Ho⟩
  ihave be1 := (arrived_fst p g c .behindR (rho c + 3) (fun _ => rfl)) $$ be1
  icases be1 with ⟨bl1, br1, zbe1⟩
  unfold onOwed
  iapply (run_seq (run_forward1 p g K c _ fn')) $$ [bl1 nFst Ho tOnAS tOnB]
  · isplitr; · iexact Hx
    isplitl [bl1]; · iexact bl1
    isplitl [nFst]; · iexact nFst
    isplitl [Ho]; · iexact Ho
    isplitl [tOnAS]; · iexact tOnAS
    iexact tOnB
  iintro %_ ⟨cOnAS, Ho⟩
  iapply (run_seq (run_waits p g K (run_fromNext p g K c (above_on2 c)) hi4)) $$ [ah2 Ho]
  · isplitr; · iexact Hx
    isplitl [ah2]; · iexact ah2
    iexact Ho
  iintro %_ ⟨ah2, Ho⟩
  ihave ah2 := (arrived_snd p g c .aheadR (rho c + 1) (fun _ => rfl)) $$ ah2
  icases ah2 with ⟨al2, ar2, zah2⟩
  iapply (run_seq (run_forward2 p g K c 0 fp')) $$ [al2 pSnd Ho tOnBS tOnA]
  · isplitr; · iexact Hx
    isplitl [al2]; · iexact al2
    isplitl [pSnd]; · iexact pSnd
    isplitl [Ho]; · iexact Ho
    isplitl [tOnBS]; · iexact tOnBS
    iexact tOnA
  iintro %_ ⟨cOnBS, Ho⟩
  -- the quarter behind
  iapply (run_seq (run_waits p g K (run_fromPrev p g K c (above_zero 3)) hi4)) $$ [be2 Ho]
  · isplitr; · iexact Hx
    isplitl [be2]; · iexact be2
    iexact Ho
  iintro %_ ⟨be2, Ho⟩
  ihave be2 := (arrived_snd p g c .behindR (rho c + 3) (fun _ => rfl)) $$ be2
  icases be2 with ⟨bl2, br2, zbe2⟩
  iapply (run_seq (run_widen256 p g c 1 (j := rho c + 3) rfl qR fo)) $$ [br1 br2 oBe]
  · isplitl [br1 br2]
    · iapply (Entails.of_eq (cut_qtr (qPts_cuts c qR (gathered p g c)) (rho c + 3)).symm)
      isplitl [br1]; · iexact br1
      iexact br2
    iexact oBe
  iintro %_ ⟨br, oBe⟩
  -- the quarter ahead
  iapply (run_seq (run_waits p g K (run_fromNext p g K c (above_zero 3)) lo4)) $$ [ah1 Ho]
  · isplitr; · iexact Hx
    isplitl [ah1]; · iexact ah1
    iexact Ho
  iintro %_ ⟨ah1, Ho⟩
  ihave ah1 := (arrived_fst p g c .aheadR (rho c + 1) (fun _ => rfl)) $$ ah1
  icases ah1 with ⟨al1, ar1, zah1⟩
  iapply (run_seq (run_widen256 p g c 0 (j := rho c + 1) rfl qR fo)) $$ [ar1 ar2 oAh]
  · isplitl [ar1 ar2]
    · iapply (Entails.of_eq (cut_qtr (qPts_cuts c qR (gathered p g c)) (rho c + 1)).symm)
      isplitl [ar1]; · iexact ar1
      iexact ar2
    iexact oAh
  iintro %_ ⟨ar, oAh⟩
  -- the quarter opposite
  iapply (run_seq (run_opposite1 p g K c fo)) $$ [cOnB aOnB oFst Ho]
  · isplitr; · iexact Hx
    isplitl [cOnB aOnB oFst]
    · unfold oppPre waitPre
      isplitl [cOnB aOnB]
      · isplitl [cOnB]; · iexact cOnB
        iexact aOnB
      iexact oFst
    iexact Ho
  unfold oppPost waitPost
  iintro %_ ⟨⟨⟨oq1, zOnB⟩, oFst⟩, Ho⟩
  iapply (run_seq (run_opposite2 p g K c fo)) $$ [cOnA aOnA oSnd Ho]
  · isplitr; · iexact Hx
    isplitl [cOnA aOnA oSnd]
    · unfold oppPre waitPre
      isplitl [cOnA aOnA]
      · isplitl [cOnA]; · iexact cOnA
        iexact aOnA
      iexact oSnd
    iexact Ho
  unfold oppPost waitPost
  iintro %_ ⟨⟨⟨oq2, zOnA⟩, oSnd⟩, Ho⟩
  -- the departures
  iapply (run_seq (run_waits p g K (run_sentUp p g K c) all8)) $$ [cUpS aUpS Ho]
  · isplitr; · iexact Hx
    isplitl [cUpS aUpS]
    · unfold waitPre
      rw [bigSepL_both]
      isplitl [cUpS]; · iexact cUpS
      iexact aUpS
    iexact Ho
  iintro %_ ⟨Hs, Ho⟩
  iapply (run_seq (run_waits p g K (run_sentAround p g K c) all8)) $$ [cAS aAS cBS aBS Ho]
  · isplitr; · iexact Hx
    isplitl [cAS aAS cBS aBS]
    · unfold waitPre
      simp only [bigSepL_both]
      isplitl [cAS aAS]
      · isplitl [cAS]; · iexact cAS
        iexact aAS
      isplitl [cBS]; · iexact cBS
      iexact aBS
    iexact Ho
  iintro %_ ⟨Hr, Ho⟩
  iapply (run_seq (run_sentOn1 p g K c)) $$ [cOnAS aOnAS Ho]
  · isplitr; · iexact Hx
    isplitl [cOnAS aOnAS]
    · unfold waitPre
      isplitl [cOnAS]; · iexact cOnAS
      iexact aOnAS
    iexact Ho
  iintro %_ ⟨H1, Ho⟩
  iapply (run_last (run_sentOn2 p g K c)) $$ [cOnBS aOnBS Ho]
  · isplitr; · iexact Hx
    isplitl [cOnBS aOnBS]
    · unfold waitPre
      isplitl [cOnBS]; · iexact cOnBS
      iexact aOnBS
    iexact Ho
  unfold waitPost
  simp only [bigSepL_both]
  iintro %_ ⟨⟨H2, zOnBS⟩, Ho⟩
  icases Hs with ⟨Hs, zUpS⟩
  icases Hr with ⟨⟨Hr1, zAS⟩, Hr2, zBS⟩
  icases H1 with ⟨H1, zOnAS⟩
  unfold endPay
  -- all together
  isplitl [zBar zUpS zUp zAS zBS zbe1 zbe2 zah1 zah2 zOnAS zOnBS zOnB zOnA]
  · isplitl [zBar]; · iexact zBar
    isplitl [zUpS zUp zAS zBS zbe1 zbe2 zah1 zah2]
    · isplitl [zUpS]; · iexact zUpS
      isplitl [zUp]; · iexact zUp
      isplitl [zAS]; · iexact zAS
      isplitl [zBS]; · iexact zBS
      isplitl [zbe1 zbe2]
      · iapply (Entails.of_eq (all8_halves (fun k => semVal (cellE c (.inl (.behindR, k))) 0)).symm)
        isplitl [zbe1]; · iexact zbe1
        iexact zbe2
      iapply (Entails.of_eq (all8_halves (fun k => semVal (cellE c (.inl (.aheadR, k))) 0)).symm)
      isplitl [zah1]; · iexact zah1
      iexact zah2
    isplitl [zOnAS]; · iexact zOnAS
    isplitl [zOnBS]; · iexact zOnBS
    isplitl [zOnB]; · iexact zOnB
    iexact zOnA
  isplitl [Hs Hc Hr1 Hr2 H1 bl2 br H2 al1 ar oq1 oq2]
  · isplitl [Hs]
    · iexists outgoing p c
      iapply (Entails.of_eq (sPts_slots c (outgoing p c)).symm); iexact Hs
    isplitl [Hc]
    · iexists outgoing p (devY c)
      iapply (Entails.of_eq (cPts_slots c (outgoing p (devY c))).symm); iexact Hc
    iexists gathered p g c
    iapply (gathered_join c (gathered p g c))
    isplitl [Hr1 Hr2]
    · isplitl [Hr1]; · iexact Hr1
      iexact Hr2
    isplitl [H1 bl2 br]
    · isplitl [H1]; · iexact H1
      isplitl [bl2]; · iexact bl2
      iexact br
    isplitl [H2 al1 ar]
    · isplitl [al1]; · iexact al1
      isplitl [H2]; · iexact H2
      iexact ar
    isplitl [oq1]; · iexact oq1
    iexact oq2
  isplitl [Ho]; · iexact Ho
  isplitl [Hp]; · iexact Hp
  isplitl [Hg]; · iexact Hg
  iapply (Entails.of_eq (cut_all (oPts_cuts c (result p g c)) (rho c)).symm)
  isplitl [oOwn]; · iapply (Entails.of_eq (cut_chunks (oPts_cuts c (result p g c)) (rho c)).symm); iexact oOwn
  isplitl [oAh]; · iexact oAh
  isplitl [oBe]; · iexact oBe
  isplitl [oFst]; · iexact oFst
  iexact oSnd

end Cert.RingRms

end
-- ==== Proof.Owed.lean ====
/-
# What the devices owe, cell by cell

All a device owes at the start is one unit to each neighbour's barrier and the size of each of its transfers to that transfer's
arrival. Every barrier is thus owed three units and every arrival its size, which is the credit the owner starts with.
-/
module

public import proofs.«01_k».proof.Proof.Body

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem still_sum (f : Fin 8 → CellTallies nD τ sig Unit) : still f all8 = ∑ k, f k := by
  rw [Fin.sum_univ_eight]
  simp only [all8, still, zero_add]
  ac_rfl

/-- All a device owes, summed over the cells it pays. -/
theorem allOwed_sum (c : Dev nD) :
    allOwed c = (∑ i : Fin 3, tallyAt (cell (barTo i c) none) () 1) + ∑ x : End, tallyAt (cellE (endTo x c) x) () (rcv x) := by
  have hf (f : Fam → CellTallies nD τ sig Unit) : ∑ x, f x = f .upS + f .upR + f .aheadS + f .behindS + f .behindR + f .aheadR := by
    show (({.upS, .upR, .aheadS, .behindS, .behindR, .aheadR} : Finset Fam).sum f) = _
    rw [Finset.sum_insert (by decide), Finset.sum_insert (by decide), Finset.sum_insert (by decide), Finset.sum_insert (by decide),
      Finset.sum_insert (by decide), Finset.sum_singleton]
    ac_rfl
  have hw (f : Fwd → CellTallies nD τ sig Unit) : ∑ x, f x = f .aheadS + f .behindS + f .behindR + f .aheadR := by
    show (({.aheadS, .behindS, .behindR, .aheadR} : Finset Fwd).sum f) = _
    rw [Finset.sum_insert (by decide), Finset.sum_insert (by decide), Finset.sum_insert (by decide), Finset.sum_singleton]
    ac_rfl
  rw [Fintype.sum_sum_type, Fintype.sum_prod_type, hf, hw, Fin.sum_univ_three]
  unfold allOwed barOwed chunksOwed aroundOwed onOwed
  rw [still_sum, still_sum]
  unfold upOwed ringOwed
  rw [Finset.sum_add_distrib]
  simp only [rcv, tallyAt_zero, Finset.sum_const_zero, zero_add, add_zero]
  show _ + tallyAt (cell (devP c) none) () 1 + tallyAt (cell (devN c) none) () 1 + tallyAt (cell (devY c) none) () 1
    = (tallyAt (cell (devY c) none) () 1 + tallyAt (cell (devN c) none) () 1 + tallyAt (cell (devP c) none) () 1)
      + ((∑ k, tallyAt (cellE (devY c) (.inl (.upR, k))) () (size (.inl (.upR, k))))
          + (∑ k, tallyAt (cellE (devN c) (.inl (.behindR, k))) () (size (.inl (.behindR, k))))
          + (∑ k, tallyAt (cellE (devP c) (.inl (.aheadR, k))) () (size (.inl (.aheadR, k))))
        + (tallyAt (cellE (devN c) (.inr .behindR)) () (size (.inr .behindR)) + tallyAt (cellE (devP c) (.inr .aheadR)) () (size (.inr .aheadR))))
  ac_rfl

/-- If every device `d` owes `n i` to cell `y i` of device `e i d`, the cell `z` of any device is owed the `n i` with `y i = z`. -/
theorem owed_at {I : Type} [Fintype I] (e : I → Dev nD ≃ Dev nD) (y : I → Cel) (n : I → ℕ) (c : Dev nD) (z : Cel) :
    ∑ d, (∑ i, tallyAt (cell (e i d) (y i)) () (n i) : CellTallies nD τ sig Unit) (cell c z) () = ∑ i, if y i = z then n i else 0 := by
  simp only [Finset.sum_apply, Finsupp.finset_sum_apply]
  rw [Finset.sum_comm]
  refine Finset.sum_congr rfl fun i _ => ?_
  rw [Fintype.sum_eq_single ((e i).symm c)]
  · rw [tallyAt_apply, Equiv.apply_symm_apply]
    by_cases h : y i = z
    · rw [if_pos h, if_pos ⟨by rw [h], rfl⟩]
    · rw [if_neg h, if_neg fun h' => h (cell_inj h'.1).2.symm]
  · intro d hd
    rw [tallyAt_apply, if_neg fun h' => hd (by rw [(cell_inj h'.1).1, Equiv.symm_apply_apply])]

theorem owed_cell (c : Dev nD) (z : Cel) :
    ∑ d, allOwed d (cell c z) () = (∑ i : Fin 3, if (none : Cel) = z then 1 else 0) + ∑ x : End, if some x = z then rcv x else 0 := by
  simp only [allOwed_sum, Pi.add_apply, Finsupp.add_apply]
  rw [Finset.sum_add_distrib, owed_at barTo (fun _ => none) (fun _ => 1) c z, owed_at endTo (fun x => some x) rcv c z]

/-- The credit of a cell at the start. -/
def credit : Cel → ℕ
  | none => 3
  | some x => rcv x

theorem owed_credit (c : Dev nD) (z : Cel) : ∑ d, allOwed d (cell c z) () = credit z := by
  rw [owed_cell]
  cases z with
  | none => simp [credit]
  | some x => simp [credit]

theorem launch_credit (c : Dev nD) (z : Cel) :
    tallyOn (cell c z) (launchCredit (Pipeline.owing allOwed) 0 (cell c z)) = (tallyAt (cell c z) () (credit z) : CellTallies nD τ sig Unit) := by
  unfold tallyAt; refine congrArg _ (Finsupp.ext fun u => ?_); cases u
  rw [Pipeline.launchCredit_owing, Finsupp.single_eq_same, owed_credit]

/-- Over the cells: the barrier and the ends. -/
theorem bigSep_cel {M : Type} [URA M] (Φ : Cel → sProp M) : bigSep Finset.univ Φ = iprop(Φ none ∗ bigSep Finset.univ fun x : End => Φ (some x)) := by
  have h : (Finset.univ.erase none : Finset Cel) = Finset.univ.map Function.Embedding.some := by
    ext x; cases x <;> simp
  rw [bigSep_univ_at Φ none, h, bigSep_map]; rfl

omit [FloatOps F] in
/-- The launch's credit on a device, at its cells. -/
theorem creds (c : Dev nD) : (Pipeline.launchCred allOwed c : sProp 𝕄)
    ⊢ iprop(cred (tallyAt (cell c none) () 3) ∗ bigSep Finset.univ fun x : End => cred (tallyAt (cellE c x) () (rcv x))) := by
  have h : (bigSep (Finset.univ.map ⟨celSem, celSem_injective⟩) fun s : SemLoc sig =>
      cred (tallyOn ((c : Thread nD τ), s) (launchCredit (Pipeline.owing allOwed) 0 ((c : Thread nD τ), s))) : sProp 𝕄)
      = iprop(cred (tallyAt (cell c none) () 3) ∗ bigSep Finset.univ fun x : End => cred (tallyAt (cellE c x) () (rcv x))) := by
    rw [bigSep_map, bigSep_cel]
    show iprop(cred (tallyOn (cell c none) (launchCredit (Pipeline.owing allOwed) 0 (cell c none)))
      ∗ bigSep Finset.univ fun x : End => cred (tallyOn (cellE c x) (launchCredit (Pipeline.owing allOwed) 0 (cellE c x)))) = _
    simp only [launch_credit]
    rfl
  rw [← h]
  exact bigSep_subset (Finset.subset_univ _)

theorem above_all (c : Dev nD) : Above 0 (allOwed c) :=
  above_add (above_add (above_add (above_le (by decide) (above_chunks c)) (above_cell _ none _ (by decide)))
    (above_cell _ none _ (by decide))) (above_cell _ none _ (by decide))

end Cert.RingRms

end
-- ==== Proof.Launch.lean ====
/-
# The launch

From the memory at the start to the run of all eight devices. The cells' ghost state is made, one invariant per cell; every
token goes from the owner of its cell to the device that pays it; each device then runs its body (`body_obligation`), and the
run ends with each device's result array at `result` and its other two arrays as they were (`run_main`).
-/
module

public import proofs.«01_k».proof.Proof.Owed
public import proofs.«01_k».proof.Proof.Gen.KernelIdeal.Launch
public import Idealize.ShloMosaic.Lib.Pipeline.CollectiveSegs
public import proofs.«01_k».proof.Proof.Gen.KernelIdeal.Points

@[expose] public section

noncomputable section

namespace Cert.RingRms

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the start: any contents, every counter zero. -/
def s₀ : MemSt nD τ sig (Elt F) := ⟨m, fun _ => 0, ρ⟩

/-- What device `d` holds of `partial`; -/
def pAt (d : Dev nD) : Vec F S2048x1024 .f32 := (win0_0.blk (0 : Fin 1)).view.read (Elt F) ((s₀ m ρ).mem ((d : Thread nD τ).loc main_arg0))
/-- its `gamma`. -/
def gAt (d : Dev nD) : Vec F S1x1024 .f32 := (win0_1.blk (0 : Fin 1)).view.read (Elt F) ((s₀ m ρ).mem ((d : Thread nD τ).loc main_arg1))

/-! ## The body's obligation -/

/-- The ghost state a device starts with. -/
def start (c : Dev nD) : sProp 𝕄 := iprop(∃ K, ctx (pAt m ρ) (gAt m ρ) K ∗ kit c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pAt m ρ c
    | ⟨1, _⟩ => gAt m ρ c
    | ⟨2, _⟩ => result (pAt m ρ) (gAt m ρ) c
  Φ t := match t with
    | ⟨0, _⟩ => iprop(start m ρ c ∗ scratch c)
    | ⟨_ + 1, _⟩ => iprop(zeros c ∗ scratch c)
  q _ := fullShare
  owed t := match t with
    | ⟨0, _⟩ => allOwed c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m ρ c ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop((zeros c ∗ scratch c) ∗ (dats m ρ 0 c).owesAt () t0_0.succ ∗ stg c cc0_stg0_0 (pAt m ρ c) ∗ stg c cc0_stg1_0 (gAt m ρ c)
    ∗ stg c cc0_stg2_0 (result (pAt m ρ) (gAt m ρ) c))

theorem before_p (c : Dev nD) (d) : (dats m ρ 0 c).before (0 : Fin 3) t0_0 d = pAt m ρ c := by
  unfold Dat.before; rw [if_pos (fetch0_0 t0_0)]; rfl
theorem before_g (c : Dev nD) (d) : (dats m ρ 0 c).before (1 : Fin 3) t0_0 d = gAt m ρ c := by
  unfold Dat.before; rw [if_pos (fetch0_1 t0_0)]; rfl

/-- The body, from the staged arguments to the staged result. -/
theorem sound_body (c : Dev nD) : bodyPre m ρ c ⊢ run c printed fun _ => bodyPost m ρ c := by
  rw [body_eq]
  unfold run
  simp only [Prog.lift, Prog.bind_op, Prog.bind_ret, wp_deviceId]
  unfold bodyPre start
  iintro ⟨⟨⟨%K, #Hx, Hk⟩, Hs⟩, Ho, ⟨%d0, %f0, %h0, Hp⟩, ⟨%d1, %f1, %h1, Hg⟩, %d2, %f2, -, Hout⟩
  have e0 : f0 = pAt m ρ c := h0.trans (before_p m ρ c d0)
  have e1 : f1 = gAt m ρ c := h1.trans (before_g m ρ c d1)
  subst e0; subst e1
  unfold Dat.owesAt Pipeline.owesWithin
  icases Ho with ⟨%W, -, Ho⟩
  ihave H := (run_body (pAt m ρ) (gAt m ρ) K c f2) $$ [Hk Hs Hp Hg Hout Ho]
  · isplitr; · iexact Hx
    isplitl [Hk]; · iexact Hk
    isplitl [Hs]; · iexact Hs
    isplitl [Ho]; · unfold ow; iexists W; iexact Ho
    isplitl [Hp]; · unfold pIn; iexact Hp
    isplitl [Hg]; · unfold gIn; iexact Hg
    unfold oPts; iexact Hout
  iapply (wp_wand _ _ _) $$ H
  iintro %a ⟨Hz, Hs, Ho, Hp, Hg, Hout⟩
  unfold bodyPost Dat.owesAt Pipeline.owesWithin
  isplitl [Hz Hs]
  · isplitl [Hz] <;> iassumption
  isplitl [Ho]
  · unfold ow
    icases Ho with ⟨%W', Ho⟩
    iexists W'
    isplitr; · ipureintro; exact fun _ _ => Or.inl trivial
    iexact Ho
  isplitl [Hp]
  · iexists _; isplitr; · (ipureintro; rfl)
    unfold pIn; iexact Hp
  isplitl [Hg]
  · iexists _; isplitr; · (ipureintro; rfl)
    unfold gIn; iexact Hg
  iexists _; isplitr; · (ipureintro; rfl)
  unfold oPts; iexact Hout

set_option maxRecDepth 65536 in
/-- What the pipeline asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scratch5 cc0_scratch6 cc0_scratch7 cc0_scratch8 cc0_scratch9 cc0_scratch10 cc0_scratch11)
    (fun _ => bodyPost m ρ c)
  exact sound_body m ρ c

/-! ## The ghost state -/

/-- The kernel's semaphores but for the barrier. -/
abbrev osem : End → SemLoc sig := fun x => .dma (endSem x)

set_option maxRecDepth 65536 in
theorem ownSemFacts : Pipeline.OwnSemFacts cfg0.spec osem := by decide

theorem share_eq (c : Dev nD) (w : Fin cfg0.W) : (dats m ρ 0 c).share w = fullShare := by unfold Dat.share; split <;> rfl

abbrev cellAt (cx : Dev nD × Cel) : GSem nD τ sig := cell cx.1 cx.2
theorem cellAt_injective : Function.Injective cellAt := fun a b h => Prod.ext (cell_inj h).1 (cell_inj h).2
def cells : Finset (GSem nD τ sig) := Finset.univ.map ⟨cellAt, cellAt_injective⟩

/-- The duties of a device's cells: three of its barrier, one of each end. -/
abbrev tokAt (cj : Dev nD × (Fin 3 ⊕ End)) : GSem nD τ sig × ℕ × Fin 3 := match cj.2 with
  | .inl i => (cell cj.1 none, 0, i)
  | .inr x => (cellE cj.1 x, 0, 0)
theorem tokAt_injective : Function.Injective tokAt := by
  rintro ⟨c, i | x⟩ ⟨c', i' | x'⟩ h
  · have h₁ := cell_inj (congrArg Prod.fst h)
    have h₂ : i = i' := congrArg (fun t : GSem nD τ sig × ℕ × Fin 3 => t.2.2) h
    exact Prod.ext h₁.1 (congrArg Sum.inl h₂)
  · exact absurd (cell_inj (congrArg Prod.fst h)).2 (by simp)
  · exact absurd (cell_inj (congrArg Prod.fst h)).2 (by simp)
  · have h₁ := cell_inj (congrArg Prod.fst h)
    exact Prod.ext h₁.1 (congrArg Sum.inr (Option.some.inj h₁.2))
def tokens : Finset (GSem nD τ sig × ℕ × Fin 3) := Finset.univ.map ⟨tokAt, tokAt_injective⟩

def u₀ : UU := (initOf (Pipeline.cells cfgs cellOf_inj) (Pipeline.launchToks cfgs cellOf_inj), initOf cells tokens)

/-- The tokens of a device's own cells; -/
def toks (c : Dev nD) : sProp 𝕄 :=
  iprop((bigSep Finset.univ fun i : Fin 3 => dutyTok ER (cell c none) 0 i) ∗ bigSep Finset.univ fun x : End => dutyTok ER (cellE c x) 0 0)
/-- of the cells it pays. -/
def payToks (c : Dev nD) : sProp 𝕄 :=
  iprop((bigSep Finset.univ fun i : Fin 3 => dutyTok ER (cell (barTo i c) none) 0 i)
    ∗ bigSep Finset.univ fun x : End => dutyTok ER (cellE (endTo x c) x) 0 0)

/-- What is made for a device's cells. -/
def made (c : Dev nD) : sProp 𝕄 :=
  iprop((bigSep Finset.univ fun x : Cel => roundState ER (sched (pAt m ρ) (gAt m ρ)) (cell c x) 0)
    ∗ (bigSep Finset.univ fun x : Cel => iprop(atPos ER (cell c x) 0 ∅ 0 ∗ reached ER (cell c x) 0)) ∗ toks c)

/-- What a device then holds, the levels and the credit aside. -/
def dealt (c : Dev nD) : sProp 𝕄 :=
  iprop(∃ K : Dev nD × Cel → ℕ, (bigSep Finset.univ fun cx : Dev nD × Cel => cellInv ER (sched (pAt m ρ) (gAt m ρ)) (K cx) (cell cx.1 cx.2))
    ∗ (bigSep Finset.univ fun cx : Dev nD × Cel => reached ER (cell cx.1 cx.2) 0)
    ∗ (bigSep Finset.univ fun x : Cel => atPos ER (cell c x) 0 ∅ 0) ∗ payToks c)

theorem make : BI.own (ER (initOf cells tokens)) ⊢ (|==> bigSep Finset.univ (made m ρ) : sProp 𝕄) := by
  have hX (Φ : GSem nD τ sig → sProp 𝕄) : bigSep cells Φ = bigSep Finset.univ fun c : Dev nD => bigSep Finset.univ fun x : Cel => Φ (cell c x) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum]; rfl
  iintro HX
  imod (Rounds.fund ER (sched (pAt m ρ) (gAt m ρ)) cells tokens) $$ HX with ⟨Hst, Hr, Hat, Htok⟩
  imodintro
  ihave Hst' := (Entails.of_eq (hX fun g => roundState ER (sched (pAt m ρ) (gAt m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold made; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (cell c none) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x : End => semVal (cellE c x) 0 := rfl

/-- A device's counters and made state become invariants; the rest is kept. -/
theorem alloc (c : Dev nD) :
    iprop(Pipeline.ownSems0 (Ix := Unit) (Name := ℕ) (U := UU) (Lvl := ℕ) (Val := Elt F) (τ := τ) osem c ∗ unscopedSems0 c ∗ made m ρ c)
      ⊢ |={Set.univ}=> iprop((bigSep Finset.univ fun x : Cel => iprop(∃ κ : ℕ, cellInv ER (sched (pAt m ρ) (gAt m ρ)) κ (cell c x)))
          ∗ (bigSep Finset.univ fun x : Cel => iprop(atPos ER (cell c x) 0 ∅ 0 ∗ reached ER (cell c x) 0)) ∗ toks c) := by
  unfold made
  rw [ownSems0_eq, unscopedSems0_eq]
  iintro ⟨Hos, Hus, Hst, Hat, Htok⟩
  ihave Hv := (Entails.of_eq (bigSep_cel fun x : Cel => (semVal (cell c x) 0 : sProp 𝕄)).symm) $$ [Hos Hus]
  · isplitl [Hus] <;> iassumption
  imod (show iprop((bigSep Finset.univ fun x : Cel => semVal (cell c x) 0) ∗ bigSep Finset.univ fun x : Cel => roundState ER (sched (pAt m ρ) (gAt m ρ)) (cell c x) 0)
      ⊢ (|={Set.univ}=> bigSep Finset.univ fun x : Cel => iprop(∃ κ : ℕ, cellInv ER (sched (pAt m ρ) (gAt m ρ)) κ (cell c x)) : sProp 𝕄) from by
        rw [← bigSep_sep']
        exact (bigSep_mono fun x _ => (Rounds.body_intro ER (sched (pAt m ρ) (gAt m ρ)) (cell c x)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family of resources over devices and `I`, moved within each `i` along a permutation of the devices. -/
theorem moved {I : Type} [Fintype I] [DecidableEq I] (e : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (e i c) i := by
  rw [← bigSep_univ_prod (fun ci : Dev nD × I => Φ ci.1 ci.2), ← bigSep_univ_prod (fun ci : Dev nD × I => Φ (e ci.2 ci.1) ci.2)]
  exact bigSep_univ_equiv ⟨fun ci => (e ci.2 ci.1, ci.2), fun ci => ((e ci.2).symm ci.1, ci.2), fun ci => by simp, fun ci => by simp⟩ _

omit [FloatOps F] in
/-- Every token to the device that pays it. -/
theorem toks_moved : (bigSep Finset.univ fun c : Dev nD => (toks c : sProp 𝕄)) = bigSep Finset.univ fun c : Dev nD => payToks c := by
  unfold toks payToks
  rw [bigSep_sep', bigSep_sep', moved barTo (fun c i => (dutyTok ER (cell c none) 0 i : sProp 𝕄)),
    moved endTo (fun c x => (dutyTok ER (cellE c x) 0 0 : sProp 𝕄))]

omit [FloatOps F] in
/-- What all may have is handed to each. -/
theorem hand_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cel => iprop(∃ κ : ℕ, cellInv ER (sched (pAt m ρ) (gAt m ρ)) κ (cell c x)))
          ∗ (bigSep Finset.univ fun x : Cel => iprop(atPos ER (cell c x) 0 ∅ 0 ∗ reached ER (cell c x) 0)) ∗ toks c) : sProp 𝕄)
      ⊢ bigSep Finset.univ (dealt m ρ) := by
  rw [bigSep_sep', bigSep_sep', toks_moved,
    ← bigSep_univ_prod (fun cx : Dev nD × Cel => iprop(∃ κ : ℕ, cellInv ER (sched (pAt m ρ) (gAt m ρ)) κ (cell cx.1 cx.2))),
    bigSep_congr (s := Finset.univ) (fun (c : Dev nD) _ => bigSep_sep' Finset.univ (fun x : Cel => (atPos ER (cell c x) 0 ∅ 0 : sProp 𝕄)) (fun x => reached ER (cell c x) 0)),
    bigSep_sep', ← bigSep_univ_prod (fun cx : Dev nD × Cel => (reached ER (cell cx.1 cx.2) 0 : sProp 𝕄))]
  iintro ⟨HI, ⟨Hat, #HR⟩, Htok⟩
  ihave HK := (BI.bigSep_exists_pi Finset.univ (fun (cx : Dev nD × Cel) (κ : ℕ) => (cellInv ER (sched (pAt m ρ) (gAt m ρ)) κ (cell cx.1 cx.2) : sProp 𝕄))) $$ HI
  icases HK with ⟨%K, #HI⟩
  have hd : ∀ c ∈ (Finset.univ : Finset (Dev nD)),
      iprop(((bigSep Finset.univ fun cx : Dev nD × Cel => cellInv ER (sched (pAt m ρ) (gAt m ρ)) (K cx) (cell cx.1 cx.2))
        ∗ (bigSep Finset.univ fun cx : Dev nD × Cel => reached ER (cell cx.1 cx.2) 0))
        ∗ ((bigSep Finset.univ fun x : Cel => atPos ER (cell c x) 0 ∅ 0) ∗ payToks c)) ⊢ dealt m ρ c := fun c _ => by
    unfold dealt
    iintro ⟨⟨H1, H2⟩, H3, H4⟩
    iexists K
    isplitl [H1]; · iexact H1
    isplitl [H2]; · iexact H2
    isplitl [H3]; · iexact H3
    iexact H4
  iapply (hand_out hd)
  isplitr
  · isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ made m ρ c) : sProp 𝕄)
    ⊢ |={Set.univ}=> bigSep Finset.univ (dealt m ρ) :=
  ((bigSep_mono fun c _ => alloc m ρ c).trans (bigSep_fupd _ _)).trans (BI.fupd_mono (regroup m ρ))

/-! ## The run -/

omit [FloatOps F] in
theorem payBar (c : Dev nD) : (bigSep Finset.univ fun i : Fin 3 => (dutyTok ER (cell (barTo i c) none) 0 i : sProp 𝕄))
    = iprop(dutyTok ER (cell (devY c) none) 0 0 ∗ dutyTok ER (cell (devN c) none) 0 1 ∗ dutyTok ER (cell (devP c) none) 0 2) := by
  rw [bigSep_univ_eq_bigSepL [0, 1, 2] (by decide) (by decide), bigSepL_cons_cons, bigSepL_cons_cons, bigSepL_singleton]
  rfl

theorem start_intro (c : Dev nD) :
    iprop(Pipeline.unscopedRestP Pipeline.Prefetch.none cfg0.spec c (fun b => m ((c : Thread nD τ).loc b)) ∗ levAts L lv
        ∗ Pipeline.launchCred allOwed c ∗ prngReg c (ρ c) ∗ dealt m ρ c)
      ⊢ |={Set.univ}=> iprop(start m ρ c ∗ emp) := by
  unfold dealt payToks
  iintro ⟨-, #Hlev, Hcr, -, %K, #HI, #HR, Hat, Htb, Hte⟩
  ihave Hc := (creds (F := F) c) $$ Hcr
  icases Hc with ⟨Hcb, Hce⟩
  ihave Ha := (Entails.of_eq (bigSep_cel fun x : Cel => (atPos ER (cell c x) 0 ∅ 0 : sProp 𝕄))) $$ Hat
  icases Ha with ⟨Hab, Hae⟩
  ihave Ht := (Entails.of_eq (payBar c)) $$ Htb
  imodintro
  unfold start
  isplitl
  · iexists K
    isplitr
    · unfold ctx
      isplitr; · iexact HI
      isplitr; · iexact HR
      iexact Hlev
    unfold kit
    isplitl [Hcb Hab]
    · isplitl [Hcb]; · iexact Hcb
      iexact Hab
    isplitl [Ht]; · iexact Ht
    isplitl [Hce]; · iexact Hce
    isplitl [Hae]; · iexact Hae
    iexact Hte
  · iempintro

omit [FloatOps F] in
theorem scratch_eq (c : Dev nD) :
    (Pipeline.scopedRest (Ix := Unit) (Name := ℕ) (U := UU) (Lvl := ℕ) (Val := Elt F) cfg0.spec c : sProp 𝕄) = scratch c :=
  scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scratch_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scratch_eq, ownSems0_eq, unscopedSems0_eq]
  unfold zeros
  iintro ⟨⟨Hb, He⟩, Hr⟩
  isplitl [Hb]; · iexact Hb
  isplitl [He]; · iexact He
  iexact Hr

/-- The staging semaphores are none of the kernel's. -/
theorem stage_not_cell (w : Fin cfg0.W) (s : Fin (cfg0.win w).nbuf) : ∀ x : Cel, celSem x ≠ .dma ((cfg0.win w).sem s) := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t =>
    mayWait (n := 0) c _ (by unfold lv; rw [celOf_none (stage_not_cell w s)]) (by
      rcases t with ⟨_ | _, ht⟩
      · exact above_all c
      · exact above_zero 0)

/-- An array after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair execution of the eight devices ends, each array at `finalA`, every counter
    at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := allOwed) (howed₀ := fun _ => rfl) (howedN := fun _ => rfl)
    (L := L) (lv := lv) (hL := L_of_ne) (hwaits := waits m ρ)
    (G := made m ρ) (G' := dealt m ρ) (u₀ := u₀)
    (hu₀ := by
      unfold u₀
      iintro Hu
      ihave H := (ownU_pair _ _) $$ Hu
      icases H with ⟨HP, HX⟩
      imod (make m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The arguments hold what they held; -/
theorem finalA_p (c : Dev nD) : finalA m ρ c (0 : Fin 3) = m ((c : Thread nD τ).loc main_arg0) := (dats (F := F) m ρ 0 c).arrAt_in (0 : Fin 3) rfl _
theorem finalA_g (c : Dev nD) : finalA m ρ c (1 : Fin 3) = m ((c : Thread nD τ).loc main_arg1) := (dats (F := F) m ρ 0 c).arrAt_in (1 : Fin 3) rfl _

theorem finalA_o (c : Dev nD) : (win0_2.blk (0 : Fin 1)).view.read (Elt F) (finalA m ρ c (2 : Fin 3)) = result (pAt m ρ) (gAt m ρ) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- A whole array's one block is the array. -/
theorem pAt_eq (d : Dev nD) : pAt m ρ d = m ((d : Thread nD τ).loc main_arg0) := funext fun i => congrArg (m ((d : Thread nD τ).loc main_arg0))
  (funext fun a => Fin.ext (by fin_cases a <;> (show 0 + 1 * _ = _; rw [Nat.zero_add, Nat.one_mul])))
theorem gAt_eq (d : Dev nD) : gAt m ρ d = m ((d : Thread nD τ).loc main_arg1) := funext fun i => congrArg (m ((d : Thread nD τ).loc main_arg1))
  (funext fun a => Fin.ext (by fin_cases a <;> (show 0 + 1 * _ = _; rw [Nat.zero_add, Nat.one_mul])))
/-- and the result array holds the result. -/
theorem finalA_out (c : Dev nD) : finalA m ρ c (2 : Fin 3) = result (pAt m ρ) (gAt m ρ) c := by
  rw [← finalA_o]
  exact funext fun i => congrArg (finalA m ρ c (2 : Fin 3))
    (funext fun a => Fin.ext (by fin_cases a <;> (show _ = 0 + 1 * _; rw [Nat.zero_add, Nat.one_mul])))

/-- The run, array by array: the arguments as they were, the result array at the result. -/
theorem run_arrays : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1)
          = result (fun d => m ((d : Thread nD τ).loc main_arg0)) (fun d => m ((d : Thread nD τ).loc main_arg1)) c)
    ∧ r.2.sem = fun _ => 0) :=
  (θ_run defs _ _).mono (fun r h => ⟨fun c => ⟨(h.1 c 0).trans (finalA_p m ρ c), (h.1 c 1).trans (finalA_g m ρ c),
    ((h.1 c 2).trans (finalA_out m ρ c)).trans (by rw [show pAt m ρ = _ from funext (pAt_eq m ρ), show gAt m ρ = _ from funext (gAt_eq m ρ)])⟩,
    h.2⟩) (run_main m ρ)

end Cert.RingRms

end
-- ==== Proof.Norm.lean ====
/-
# One row

The value at `Ideal` of a chunk the kernel finishes and of the reference, entry by entry: both are the entry of the summed
row, over the root of the row's mean square (plus a small constant), times `gamma`. The kernel multiplies by the reciprocal
root, the reference divides by the root; the radicand is positive, so the two agree.
-/
module

public import proofs.«01_k».proof.Proof.Contents
public import proofs.«01_k».proof.Proof.Gen.ReferenceIdeal.Run
public import Idealize.ShloMosaic.Lib.Pointwise

@[expose] public section

set_option maxRecDepth 16384

noncomputable section

namespace Cert.RingRms

open Idealize.ShloMosaic

/-- What stands under the root: the mean square of a row, plus the small constant. -/
def radicand (y : Fin 1024 → EReal) : EReal :=
  Ideal.div (∑ j, y j * y j) (Ideal.ofBits .f32 0x44800000#32) + Ideal.ofBits .f32 0x358637BD#32

/-- Entry `c` of a row normalized by its root mean square, times `γ`. -/
def normed (y : Fin 1024 → EReal) (c : Fin 1024) (γ : EReal) : EReal := y c * Ideal.rsqrt (radicand y) * γ

/-- The length of a row, as the programs print it. -/
theorem length_eq : Ideal.ofBits .f32 0x44800000#32 = ((1024 : ℝ) : EReal) := by
  simp [Ideal.ofBits, Ideal.ieee, -EReal.coe_mul]; norm_num

/-- The constant added under the root is positive. -/
theorem small_pos : 0 < Ideal.ofBits .f32 0x358637BD#32 := by
  simp [Ideal.ofBits, Ideal.ieee, -EReal.coe_mul]

/-- The square of an extended real is not negative. -/
theorem square_nonneg (x : EReal) : 0 ≤ x * x := by
  induction x with
  | bot => simp
  | top => simp
  | coe r => rw [← EReal.coe_mul]; exact_mod_cast mul_self_nonneg r

/-- The radicand is positive. -/
theorem radicand_pos (y : Fin 1024 → EReal) : 0 < radicand y := by
  unfold radicand
  rw [length_eq, Ideal.div_coe (by norm_num)]
  have h : 0 ≤ (∑ j, y j * y j) * ((1 / 1024 : ℝ) : EReal) :=
    mul_nonneg (Finset.sum_nonneg fun j _ => square_nonneg (y j)) (by exact_mod_cast (by norm_num : (0 : ℝ) ≤ 1 / 1024))
  exact lt_of_lt_of_le small_pos (le_add_of_nonneg_left h)

/-- Dividing by the root of a positive number is multiplying by its reciprocal root. -/
theorem div_root {v : EReal} (h : 0 < v) (x : EReal) : Ideal.div x (Ideal.sqrt v) = x * Ideal.rsqrt v := by
  induction v with
  | bot => exact absurd h (by simp)
  | top =>
    rw [Ideal.sqrt_top, Ideal.rsqrt_top, Ideal.div, if_neg EReal.top_ne_zero, EReal.inv_top]
  | coe r =>
    have hr : 0 < r := by exact_mod_cast h
    have hs : Real.sqrt r ≠ 0 := (Real.sqrt_pos.mpr hr).ne'
    rw [Ideal.rsqrt_coe, if_neg hr.not_gt, if_neg hr.ne', Ideal.sqrt_coe, if_neg hr.not_gt, Ideal.div_coe hs, one_div]

/-- A finished chunk, entry by entry: `v` the device's own rows, `u` the rows its neighbour sent, `γ` the row `gamma`. -/
theorem chunkOf_apply (v : Vec Ideal Cert.KernelIdeal.S32x1024 .f32) (u : Vec Ideal Cert.KernelIdeal.S1x32x1024 .bf16)
    (γ : Vec Ideal Cert.KernelIdeal.S1x1024 .f32) (r : Fin 32) (c : Fin 1024) :
    chunkOf v u γ (ix2 r c) = normed (fun j => v (ix2 r j) + u (ix3 0 r j)) c (γ (ix2 0 c)) := by
  pointwise [chunkOf, normed, radicand, Cert.KernelIdeal.Gen.k0_pay14]

/-- The same chunk in `bf16`: at `Ideal` a conversion keeps the value. -/
theorem halfOf_apply (v : Vec Ideal Cert.KernelIdeal.S32x1024 .f32) (u : Vec Ideal Cert.KernelIdeal.S1x32x1024 .bf16)
    (γ : Vec Ideal Cert.KernelIdeal.S1x1024 .f32) (i : Cert.KernelIdeal.S32x1024.Idx) :
    halfOf v u γ i = chunkOf v u γ i := by
  pointwise [halfOf, chunkOf, Cert.KernelIdeal.Gen.k0_pay15]

/-- A chunk sent to the neighbour: the rows read, unchanged at `Ideal`. -/
theorem stageOf_apply (v : Vec Ideal Cert.KernelIdeal.S32x1024 .f32) (r : Fin 32) (c : Fin 1024) :
    stageOf v (ix3 0 r c) = v (ix2 r c) := by
  pointwise [stageOf, Cert.KernelIdeal.Gen.k0_pay3]

section Reference

open Cert.ReferenceIdeal Cert.ReferenceIdeal.Gen

/-- The two summands of `partial`, added: the reference's first step. -/
def summed (A : FVec Ideal S4096x1024 .f32) : FVec Ideal S2048x1024 .f32 :=
  Host.reduceAdd (shapeCast S2x2048x1024 A shapeCasts_S4096x1024_S2x2048x1024) (constant S_ .f32 0x00000000#32)
    reducesTo_S2x2048x1024_S2048x1024_d0 h_S_

/-- The reference's result, of its two arguments. -/
def refOut (A : FVec Ideal S4096x1024 .f32) (G : FVec Ideal S1x1024 .f32) : FVec Ideal S2048x1024 .f32 :=
  mulf (Host.divf (summed A) (broadcastInDim S2048x1024 ![0, 1] bcast_S2048x1_S2048x1024_0_1
      (Host.sqrt (addf (Host.divf
          (broadcastInDim S2048x1 ![0] bcast_S2048_S2048x1_0
            (Host.reduceAdd (mulf (summed A) (summed A)) (constant S_ .f32 0x00000000#32) reducesTo_S2048x1024_S2048_d1 h_S_))
          (broadcastInDim S2048x1 ![] bcast_S_S2048x1 (constant S_ .f32 0x44800000#32)))
        (broadcastInDim S2048x1 ![] bcast_S_S2048x1 (constant S_ .f32 0x358637BD#32))))))
    (broadcastInDim S2048x1024 ![0, 1] bcast_S1x1024_S2048x1024_0_1
      (broadcastInDim S1x1024 ![1] bcast_S1024_S1x1024_1 (shapeCast S1024 G shapeCasts_S1x1024_S1024)))

/-- Row `R` of the sum is rows `R` and `2048 + R` of `partial`, added. -/
theorem summed_apply (A : FVec Ideal S4096x1024 .f32) (R : Fin 2048) (c : Fin 1024) :
    summed A (ix2 R c) = A (ix2 ⟨R.val, by omega⟩ c) + A (ix2 ⟨2048 + R.val, by omega⟩ c) := by
  pointwise [summed, Fin.sum_univ_two]

/-- The reference's result, entry by entry: the sum's row normalized, times `gamma`. -/
theorem refOut_apply (A : FVec Ideal S4096x1024 .f32) (G : FVec Ideal S1x1024 .f32) (R : Fin 2048) (c : Fin 1024) :
    refOut A G (ix2 R c) = normed (fun j => summed A (ix2 R j)) c (G (ix2 0 c)) := by
  have h : refOut A G (ix2 R c)
      = Ideal.div (summed A (ix2 R c)) (Ideal.sqrt (radicand fun j => summed A (ix2 R j))) * G (ix2 0 c) := by
    unfold refOut radicand
    generalize summed A = Y
    pointwise
  rw [h, div_root (radicand_pos _)]
  rfl

end Reference

end Cert.RingRms

end
-- ==== Proof.Value.lean ====
/-
# The result, entry by entry

At `Ideal`, on every device, row `n` of the result is the normalized sum of one row of two devices' `partial`: a device of
the ring and its neighbour across `y`. When the devices' buffers are the blocks of one whole array, that sum is the
reference's, and the result is the device's block of the reference's result.
-/
module

public import proofs.«01_k».proof.Proof.Norm
public import Idealize.ShloMosaic.Lib.Layout

@[expose] public section

noncomputable section

namespace Cert.RingRms

open Cert.KernelIdeal Cert.KernelIdeal.Gen
open Idealize.ShloMosaic

variable (p : Dev nD → Vec Ideal S2048x1024 .f32) (g : Dev nD → Vec Ideal S1x1024 .f32)

/-- Row `n` of half `y`. -/
abbrev inHalf (y : Fin 2) (n : Fin 1024) : Fin 2048 := ⟨1024 * y.val + n.val, by omega⟩
/-- Row `r` of chunk `k` of quarter `j`. -/
abbrev place (j : Fin 4) (k : Fin 8) (r : Fin 32) : Fin 1024 := ⟨256 * j.val + 32 * k.val + r.val, by omega⟩

/-- Reading 32 whole rows off `partial` from row `a` on. -/
theorem read_rows {off : Fin 2 → ℕ} {inb : ∀ a, off a + S32x1024.size a ≤ S2048x1024.size a} {a : ℕ} (ho : off = ![a, 0])
    (X : Vec Ideal S2048x1024 .f32) (r : Fin 32) (c : Fin 1024) (R : Fin 2048) (hR : R.val = a + r.val) :
    pM.view.readAt (Elt Ideal) (Rect.unit (s := S2048x1024) off S32x1024.size inb).toLoadRect X (ix2 r c) = X (ix2 R c) := by
  subst ho
  refine congrArg X (funext fun b => Fin.ext ?_)
  fin_cases b
  · show a + 1 * r.val = R.val
    omega
  · show 0 + 1 * c.val = c.val
    omega

/-- The rows a device reads for itself, in chunk `k`; -/
theorem read_mine (d : Dev nD) (k : Fin 8) (r : Fin 32) (c : Fin 1024) :
    pM.view.readAt (Elt Ideal) (rMine d k).toLoadRect (p d) (ix2 r c) = p d (ix2 (inHalf (half d) (place (rho d) k r)) c) :=
  read_rows (inb := k0_off2_inb d k) (off2_eq d k) (p d) r c _ (by show 1024 * _ + (_ + _ + _) = _; omega)

/-- the rows it reads for its neighbour. -/
theorem read_nbr (d : Dev nD) (k : Fin 8) (r : Fin 32) (c : Fin 1024) :
    pM.view.readAt (Elt Ideal) (rNbr d k).toLoadRect (p d) (ix2 r c)
      = p d (ix2 (inHalf (1 - half d) (place (rho d) k r)) c) :=
  read_rows (inb := k0_off1_inb d k) (off1_eq d k) (p d) r c _ (by show 1024 * _ + (_ + _ + _) = _; omega)

theorem at32_eq (r : Fin 32) (c : Fin 1024) : at32 r c = ix2 r c := funext fun a => by fin_cases a <;> rfl
theorem at132_ix (r : Fin 32) (c : Fin 1024) : at132 r c = ix3 0 r c := funext fun a => by fin_cases a <;> rfl

/-- What a device received in chunk `k`: its neighbour's rows of the half the device reduces. -/
theorem read_received (d : Dev nD) (k : Fin 8) (r : Fin 32) (c : Fin 1024) :
    cM.view.readAt (Elt Ideal) (slot k).toLoadRect (outgoing p (devY d)) (ix3 0 r c)
      = p (devY d) (ix2 (inHalf (half d) (place (rho d) k r)) c) := by
  have h := congrFun (read_outgoing p (devY d) k) (ix3 0 r c)
  refine Eq.trans ?_ (h.trans ?_)
  · rfl
  · rw [stageOf_apply, read_nbr, half_devY, rho_devY]
    have hy : 1 - (1 - half d) = half d := by generalize half d = y; revert y; decide
    rw [hy]

/-- `gamma`, read. -/
theorem read_gamma (X : Vec Ideal S1x1024 .f32) (c : Fin 1024) :
    gM.view.readAt (Elt Ideal) rG.toLoadRect X (ix2 0 c) = X (ix2 0 c) := by
  refine congrArg X (funext fun b => Fin.ext ?_)
  fin_cases b
  · rfl
  · show 0 + 1 * c.val = c.val
    omega

/-- A finished chunk of device `d`, entry by entry. -/
theorem chunk_apply (d : Dev nD) (k : Fin 8) (r : Fin 32) (c : Fin 1024) :
    chunk p g d k (at32 r c)
      = normed (fun j => p d (ix2 (inHalf (half d) (place (rho d) k r)) j) + p (devY d) (ix2 (inHalf (half d) (place (rho d) k r)) j))
          c (g d (ix2 0 c)) := by
  rw [at32_eq]
  unfold chunk
  rw [chunkOf_apply, read_gamma]
  congr 1
  funext j
  rw [read_mine, read_received]

/-- The quarter of row `n`. -/
abbrev quarterOf (n : Fin 1024) : Fin 4 := ⟨n.val / 256, by omega⟩

/-- The result of device `d` at row `n`: the row summed and normalized on the device of the ring that holds its quarter. -/
theorem result_apply (d : Dev nD) (n c : Fin 1024) :
    result p g d (ix2 n c)
      = normed (fun j => p (ringAt d (quarterOf n)) (ix2 (inHalf (half d) n) j)
            + p (devY (ringAt d (quarterOf n))) (ix2 (inHalf (half d) n) j))
          c (g (ringAt d (quarterOf n)) (ix2 0 c)) := by
  have h : result p g d (ix2 n c) = chunk p g (ringAt d (quarter (ix2 n c))) (chunkNo (ix2 n c)) (inChunk (ix2 n c)) := by
    unfold result
    split
    · rename_i hq; rw [hq, ringAt_rho]
    · exact halfOf_apply _ _ _ _
  have hc := chunk_apply p g (ringAt d (quarterOf n)) ⟨n.val % 256 / 32, by omega⟩ ⟨n.val % 32, by omega⟩ c
  have hp : place (quarterOf n) ⟨n.val % 256 / 32, by omega⟩ ⟨n.val % 32, by omega⟩ = n := Fin.ext (by
    show 256 * (n.val / 256) + 32 * (n.val % 256 / 32) + n.val % 32 = n.val
    omega)
  rw [half_ringAt, rho_ringAt, hp] at hc
  exact h.trans hc

/-! ## Blocks -/

/-- A device's block of `partial`, its rows cut in two along `y`; -/
abbrev blockIn (d : Dev nD) (A : Cert.ReferenceIdeal.S4096x1024.Idx → EReal) : S2048x1024.Idx → EReal :=
  Layout.blockN ⟨2, ![2048, 1024]⟩ ⟨2, ![4096, 1024]⟩ (Layout.meshBlock [2, 2, 2] ![[1], []] d) A
/-- its block of the result. -/
abbrev blockOut (d : Dev nD) (V : Cert.ReferenceIdeal.S2048x1024.Idx → EReal) : S1024x1024.Idx → EReal :=
  Layout.blockN ⟨2, ![1024, 1024]⟩ ⟨2, ![2048, 1024]⟩ (Layout.meshBlock [2, 2, 2] ![[1], []] d) V

/-- Row `R` of summand `y`. -/
abbrev inWhole (y : Fin 2) (R : Fin 2048) : Fin 4096 := ⟨2048 * y.val + R.val, by omega⟩

/-- The block of `partial` is rows `2048 y`, …, `2048 y + 2047`, one summand; -/
theorem block_partial (d : Dev nD) (A : Cert.ReferenceIdeal.S4096x1024.Idx → EReal) (R : Fin 2048) (c : Fin 1024) :
    blockIn d A (ix2 R c) = A (ix2 (inWhole (half d) R) c) := by
  refine congrArg A (funext fun b => Fin.ext ?_)
  fin_cases b
  · show (d.val / 2 % 2 * 1 + 0) * 2048 + R.val = 2048 * (d.val / 2 % 2) + R.val
    omega
  · show 0 * 1024 + c.val = c.val
    omega

/-- the block of the result, the rows of half `y`. -/
theorem block_result (d : Dev nD) (V : Cert.ReferenceIdeal.S2048x1024.Idx → EReal) (n c : Fin 1024) :
    blockOut d V (ix2 n c) = V (ix2 (inHalf (half d) n) c) := by
  refine congrArg V (funext fun b => Fin.ext ?_)
  fin_cases b
  · show (d.val / 2 % 2 * 1 + 0) * 1024 + n.val = 1024 * (d.val / 2 % 2) + n.val
    omega
  · show 0 * 1024 + c.val = c.val
    omega

/-- A row of a device and the same row of its neighbour across `y`, added: the reference's sum, in whichever order. -/
theorem pair_sum (A : FVec Ideal Cert.ReferenceIdeal.S4096x1024 .f32)
    (hp : ∀ d, p d = blockIn d A) (d : Dev nD) (R : Fin 2048) (c : Fin 1024) :
    p d (ix2 R c) + p (devY d) (ix2 R c) = summed A (ix2 R c) := by
  rw [hp, hp, block_partial, block_partial, half_devY, summed_apply]
  generalize half d = y
  fin_cases y
  · exact congrArg₂ (fun a b => A (ix2 a c) + A (ix2 b c)) (Fin.ext (show 2048 * 0 + R.val = R.val by omega))
      (Fin.ext (show 2048 * 1 + R.val = 2048 + R.val by omega))
  · rw [add_comm]
    exact congrArg₂ (fun a b => A (ix2 a c) + A (ix2 b c)) (Fin.ext (show 2048 * 0 + R.val = R.val by omega))
      (Fin.ext (show 2048 * 1 + R.val = 2048 + R.val by omega))

/-- The result of every device is its block of the reference's result, when the devices hold the blocks of `A` and all of
them hold `G`. -/
theorem result_block (A : FVec Ideal Cert.ReferenceIdeal.S4096x1024 .f32) (G : FVec Ideal S1x1024 .f32)
    (hp : ∀ d, p d = blockIn d A) (hg : ∀ d, g d = G) (d : Dev nD) :
    result p g d = blockOut d (refOut A G) := by
  funext i
  rw [eq_ix2 i]
  generalize i 0 = n; generalize i 1 = c
  revert n c
  show ∀ n c : Fin 1024, _
  intro n c
  rw [block_result, refOut_apply, result_apply, hg]
  congr 1
  funext j
  exact pair_sum p A hp _ _ _

end Cert.RingRms

end
-- ==== Proof.lean ====
/-
# The certificate

The five claims, from the run of the kernel (Proof/Launch.lean), the run of the reference, and the equation between their
results (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel Cert.RingRms

/-- The two printed programs have the same kernels, -/
theorem kernels_eq : Cert.Kernel.defs₀ (F := Bits) = Cert.KernelIdeal.defs₀ (F := Bits) := by
  unfold Cert.Kernel.defs₀ Cert.KernelIdeal.defs₀
  refine congrArg _ (funext fun l => ?_)
  fin_cases l
  rfl

/-- and the same calls of them. -/
theorem defs_eq : Cert.Kernel.defs (F := Bits) = Cert.KernelIdeal.defs (F := Bits) :=
  congrArg (Pipeline.defs Cert.KernelIdeal.pcfgs) kernels_eq

/-- The kernel leaves its arguments as they were and every counter at zero, on the chip's own numbers. -/
theorem frame_kernel : Cert.quiescent_Kernel := by
  intro m ρ _
  rw [defs_eq]
  exact (θ_run Cert.KernelIdeal.defs _ _).mono (fun _ h => ⟨fun c => ⟨(h.1 c).1, (h.1 c).2.1⟩, h.2⟩) (run_arrays (F := Bits) m ρ)

/-- The same on the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_arrays (F := Ideal) m ρ)

/-- The reference leaves its arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its block of the reference's result, when the devices hold the blocks of its arguments. -/
theorem algebraic : Cert.algebraic_KernelIdeal_ReferenceIdeal := by
  intro m ρ m' ρ' _ hagree
  refine ⟨_, (θ_run Cert.KernelIdeal.defs _ _).mono (fun _ h c => ⟨(h.1 c).2.2.trans ?_, (h.1 c).1, (h.1 c).2.1⟩)
      (run_arrays (F := Ideal) m ρ),
    (θ_run Cert.ReferenceIdeal.defs _ _).mono (fun _ h => h 0) (Cert.ReferenceIdeal.Value.run (F := Ideal) m' ρ')⟩
  exact result_block _ _ _ _ (fun d => (hagree d).1) (fun d => (hagree d).2) c

theorem claim : Cert.Claim :=
  ⟨Cert.Kernel.Gen.facts, Cert.KernelIdeal.Gen.facts, Cert.ReferenceIdeal.Gen.facts,
    frame_kernel, frame_ideal, frame_reference, trivial, algebraic⟩

end Cert.Proof

end
